-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x1024x96 : Shape := ⟨3, ![1024, 1024, 96]⟩
abbrev S1024x1024 : Shape := ⟨2, ![1024, 1024]⟩
abbrev S8x1024 : Shape := ⟨2, ![8, 1024]⟩
abbrev S256x1 : Shape := ⟨2, ![256, 1]⟩
abbrev S256x1024 : Shape := ⟨2, ![256, 1024]⟩
abbrev S1x1024 : Shape := ⟨2, ![1, 1024]⟩
abbrev S256 : Shape := ⟨1, ![256]⟩
abbrev S1024 : Shape := ⟨1, ![1024]⟩
abbrev S_ : Shape := ⟨0, ![]⟩

abbrev nBuf : Space → Nat
  | .hbm => 6
  | .vmem => 3
  | .smem => 0
  | _ => 0

abbrev bufTy : (tb : Table) → Fin (tcTables nBuf tb) → BufTy
  | .hbm, ⟨0, _⟩ => ⟨S1024x1024x96, .f32⟩
  | .hbm, ⟨1, _⟩ => ⟨S1024x1024, .i32⟩
  | .hbm, ⟨2, _⟩ => ⟨S_, .i32⟩
  | .hbm, ⟨3, _⟩ => ⟨S1024x1024, .i32⟩
  | .hbm, ⟨4, _⟩ => ⟨S1024x1024, .i1⟩
  | .hbm, ⟨5, _⟩ => ⟨S1024x1024, .i1⟩
  | .local _ .vmem, ⟨0, _⟩ => ⟨S8x1024, .i32⟩
  | .local _ .vmem, ⟨1, _⟩ => ⟨S8x1024, .i32⟩
  | .local _ .vmem, ⟨2, _⟩ => ⟨S8x1024, .i32⟩
  | _, _ => ⟨S1024x1024x96, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_scratch0 : Ref sig .tc := ⟨.vmem, 2, rfl⟩
abbrev cc0_sem0_0 : DmaSem sig := 0
abbrev cc0_sem0_1 : DmaSem sig := 1

abbrev nD : Nat := 1
abbrev τ : Topo := Topo.v7x

variable {F : FTy → Type} [FloatOps F]

abbrev grid0 : Pipeline.Grid := ⟨1, ![128], ![false]⟩

@[reducible] def k0_t1_loop : Scf.Loop 32 :=
  let c0_i32_40 : BitVec 32 := 0#32
  let c8_i32_41 : BitVec 32 := 8#32
  let v195 : BitVec 32 := Scalar.addi c0_i32_40 c8_i32_41
  let c1_i32_42 : BitVec 32 := 1#32
  ⟨c0_i32_40, v195, c1_i32_42⟩
def k0_off1 (k0_t1 : Fin k0_t1_loop.trips) : Fin 2 → Nat :=
  let c0_i32_40 : BitVec 32 := 0#32
  let c1_i32_42 : BitVec 32 := 1#32
  let arg3 : BitVec 32 := Scf.iv c0_i32_40 c1_i32_42 k0_t1
  let v196 : Index := Scalar.indexCast arg3
  let c0_44 : Index := 0#32
  ![v196.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x1024 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]
-- ==== ReferenceIdeal.lean ====
abbrev S1024x1024x96 : Shape := ⟨3, ![1024, 1024, 96]⟩
abbrev S_ : Shape := ⟨0, ![]⟩
abbrev S1 : Shape := ⟨1, ![1]⟩
abbrev S2 : Shape := ⟨1, ![2]⟩
abbrev S1x1 : Shape := ⟨2, ![1, 1]⟩
abbrev S1024x1024 : Shape := ⟨2, ![1024, 1024]⟩

abbrev nBuf : Space → Nat
  | .hbm => 281
  | .vmem => 0
  | .smem => 0
  | _ => 0

abbrev hbmTy0_0 (i : Nat) : BufTy := match i % 128 with
  | 0 => ⟨S1024x1024x96, .f32⟩
  | 1 => ⟨S_, .i32⟩
  | 2 => ⟨S_, .i32⟩
  | 3 => ⟨S_, .i32⟩
  | 4 => ⟨S_, .i32⟩
  | 5 => ⟨S1, .i32⟩
  | 6 => ⟨S_, .i32⟩
  | 7 => ⟨S_, .i32⟩
  | 8 => ⟨S_, .i32⟩
  | 9 => ⟨S1, .i32⟩
  | 10 => ⟨S2, .i32⟩
  | 11 => ⟨S_, .f32⟩
  | 12 => ⟨S_, .f32⟩
  | 13 => ⟨S_, .f32⟩
  | 14 => ⟨S_, .f32⟩
  | 15 => ⟨S1x1, .f32⟩
  | 16 => ⟨S1x1, .f32⟩
  | 17 => ⟨S1, .i32⟩
  | 18 => ⟨S_, .i32⟩
  | 19 => ⟨S1, .i32⟩
  | 20 => ⟨S_, .i32⟩
  | 21 => ⟨S1024x1024, .i64⟩
  | 22 => ⟨S1024x1024, .i64⟩
  | 23 => ⟨S_, .i64⟩
  | 24 => ⟨S1024x1024, .i64⟩
  | 25 => ⟨S1024x1024, .i64⟩
  | 26 => ⟨S_, .i64⟩
  | 27 => ⟨S1024x1024, .i64⟩
  | 28 => ⟨S1024x1024, .i64⟩
  | 29 => ⟨S1024x1024, .i64⟩
  | 30 => ⟨S_, .i64⟩
  | 31 => ⟨S1024x1024, .i64⟩
  | 32 => ⟨S1024x1024, .i64⟩
  | 33 => ⟨S1024x1024, .i32⟩
  | 34 => ⟨S1024x1024, .i32⟩
  | 35 => ⟨S_, .i32⟩
  | 36 => ⟨S_, .i32⟩
  | 37 => ⟨S_, .i32⟩
  | 38 => ⟨S1024x1024, .i32⟩
  | 39 => ⟨S1024x1024, .i32⟩
  | 40 => ⟨S1024x1024, .i32⟩
  | 41 => ⟨S1024x1024, .i32⟩
  | 42 => ⟨S1024x1024, .i32⟩
  | 43 => ⟨S_, .i32⟩
  | 44 => ⟨S1024x1024, .i32⟩
  | 45 => ⟨S1024x1024, .i32⟩
  | 46 => ⟨S_, .i32⟩
  | 47 => ⟨S1024x1024, .i32⟩
  | 48 => ⟨S1024x1024, .i32⟩
  | 49 => ⟨S1024x1024, .i32⟩
  | 50 => ⟨S1024x1024, .i32⟩
  | 51 => ⟨S1024x1024, .i32⟩
  | 52 => ⟨S_, .i32⟩
  | 53 => ⟨S1024x1024, .i32⟩
  | 54 => ⟨S1024x1024, .i32⟩
  | 55 => ⟨S_, .i32⟩
  | 56 => ⟨S1024x1024, .i32⟩
  | 57 => ⟨S1024x1024, .i32⟩
  | 58 => ⟨S1024x1024, .i32⟩
  | 59 => ⟨S1024x1024, .i32⟩
  | 60 => ⟨S1024x1024, .i32⟩
  | 61 => ⟨S_, .i32⟩
  | 62 => ⟨S1024x1024, .i32⟩
  | 63 => ⟨S1024x1024, .i32⟩
  | 64 => ⟨S_, .i32⟩
  | 65 => ⟨S1024x1024, .i32⟩
  | 66 => ⟨S1024x1024, .i32⟩
  | 67 => ⟨S1024x1024, .i32⟩
  | 68 => ⟨S1024x1024, .i32⟩
  | 69 => ⟨S1024x1024, .i32⟩
  | 70 => ⟨S_, .i32⟩
  | 71 => ⟨S1024x1024, .i32⟩
  | 72 => ⟨S1024x1024, .i32⟩
  | 73 => ⟨S_, .i32⟩
  | 74 => ⟨S1024x1024, .i32⟩
  | 75 => ⟨S1024x1024, .i32⟩
  | 76 => ⟨S1024x1024, .i32⟩
  | 77 => ⟨S1024x1024, .i32⟩
  | 78 => ⟨S1024x1024, .i32⟩
  | 79 => ⟨S1024x1024, .i32⟩
  | 80 => ⟨S1024x1024, .i32⟩
  | 81 => ⟨S1024x1024, .i32⟩
  | 82 => ⟨S_, .i32⟩
  | 83 => ⟨S1024x1024, .i32⟩
  | 84 => ⟨S1024x1024, .i32⟩
  | 85 => ⟨S1024x1024, .i32⟩
  | 86 => ⟨S_, .i32⟩
  | 87 => ⟨S1024x1024, .i32⟩
  | 88 => ⟨S1024x1024, .i32⟩
  | 89 => ⟨S_, .i32⟩
  | 90 => ⟨S1024x1024, .i32⟩
  | 91 => ⟨S1024x1024, .i32⟩
  | 92 => ⟨S1024x1024, .i32⟩
  | 93 => ⟨S1024x1024, .i32⟩
  | 94 => ⟨S1024x1024, .i32⟩
  | 95 => ⟨S_, .i32⟩
  | 96 => ⟨S1024x1024, .i32⟩
  | 97 => ⟨S1024x1024, .i32⟩
  | 98 => ⟨S_, .i32⟩
  | 99 => ⟨S1024x1024, .i32⟩
  | 100 => ⟨S1024x1024, .i32⟩
  | 101 => ⟨S1024x1024, .i32⟩
  | 102 => ⟨S1024x1024, .i32⟩
  | 103 => ⟨S1024x1024, .i32⟩
  | 104 => ⟨S_, .i32⟩
  | 105 => ⟨S1024x1024, .i32⟩
  | 106 => ⟨S1024x1024, .i32⟩
  | 107 => ⟨S_, .i32⟩
  | 108 => ⟨S1024x1024, .i32⟩
  | 109 => ⟨S1024x1024, .i32⟩
  | 110 => ⟨S1024x1024, .i32⟩
  | 111 => ⟨S1024x1024, .i32⟩
  | 112 => ⟨S1024x1024, .i32⟩
  | 113 => ⟨S_, .i32⟩
  | 114 => ⟨S1024x1024, .i32⟩
  | 115 => ⟨S1024x1024, .i32⟩
  | 116 => ⟨S_, .i32⟩
  | 117 => ⟨S1024x1024, .i32⟩
  | 118 => ⟨S1024x1024, .i32⟩
  | 119 => ⟨S1024x1024, .i32⟩
  | 120 => ⟨S1024x1024, .i32⟩
  | 121 => ⟨S1024x1024, .i32⟩
  | 122 => ⟨S1024x1024, .i32⟩
  | 123 => ⟨S1024x1024, .i32⟩
  | 124 => ⟨S1024x1024, .i32⟩
  | 125 => ⟨S_, .i32⟩
  | 126 => ⟨S1024x1024, .i32⟩
  | 127 => ⟨S1024x1024, .i32⟩
  | _ => ⟨S1024x1024x96, .f32⟩

abbrev hbmTy0_1 (i : Nat) : BufTy := match i % 128 with
  | 0 => ⟨S1024x1024, .i32⟩
  | 1 => ⟨S_, .i32⟩
  | 2 => ⟨S1024x1024, .i32⟩
  | 3 => ⟨S1024x1024, .i32⟩
  | 4 => ⟨S_, .i32⟩
  | 5 => ⟨S1024x1024, .i32⟩
  | 6 => ⟨S1024x1024, .i32⟩
  | 7 => ⟨S1024x1024, .i32⟩
  | 8 => ⟨S1024x1024, .i32⟩
  | 9 => ⟨S1024x1024, .i32⟩
  | 10 => ⟨S_, .i32⟩
  | 11 => ⟨S1024x1024, .i32⟩
  | 12 => ⟨S1024x1024, .i32⟩
  | 13 => ⟨S_, .i32⟩
  | 14 => ⟨S1024x1024, .i32⟩
  | 15 => ⟨S1024x1024, .i32⟩
  | 16 => ⟨S1024x1024, .i32⟩
  | 17 => ⟨S1024x1024, .i32⟩
  | 18 => ⟨S1024x1024, .i32⟩
  | 19 => ⟨S_, .i32⟩
  | 20 => ⟨S1024x1024, .i32⟩
  | 21 => ⟨S1024x1024, .i32⟩
  | 22 => ⟨S_, .i32⟩
  | 23 => ⟨S1024x1024, .i32⟩
  | 24 => ⟨S1024x1024, .i32⟩
  | 25 => ⟨S1024x1024, .i32⟩
  | 26 => ⟨S1024x1024, .i32⟩
  | 27 => ⟨S1024x1024, .i32⟩
  | 28 => ⟨S_, .i32⟩
  | 29 => ⟨S1024x1024, .i32⟩
  | 30 => ⟨S1024x1024, .i32⟩
  | 31 => ⟨S_, .i32⟩
  | 32 => ⟨S1024x1024, .i32⟩
  | 33 => ⟨S1024x1024, .i32⟩
  | 34 => ⟨S1024x1024, .i32⟩
  | 35 => ⟨S1024x1024, .i32⟩
  | 36 => ⟨S1024x1024, .i32⟩
  | 37 => ⟨S1024x1024, .i32⟩
  | 38 => ⟨S1024x1024, .i32⟩
  | 39 => ⟨S1024x1024, .i32⟩
  | 40 => ⟨S_, .i32⟩
  | 41 => ⟨S1024x1024, .i32⟩
  | 42 => ⟨S1024x1024, .i32⟩
  | 43 => ⟨S1024x1024, .i32⟩
  | 44 => ⟨S_, .i32⟩
  | 45 => ⟨S1024x1024, .i32⟩
  | 46 => ⟨S1024x1024, .i32⟩
  | 47 => ⟨S_, .i32⟩
  | 48 => ⟨S1024x1024, .i32⟩
  | 49 => ⟨S1024x1024, .i32⟩
  | 50 => ⟨S1024x1024, .i32⟩
  | 51 => ⟨S1024x1024, .i32⟩
  | 52 => ⟨S1024x1024, .i32⟩
  | 53 => ⟨S_, .i32⟩
  | 54 => ⟨S1024x1024, .i32⟩
  | 55 => ⟨S1024x1024, .i32⟩
  | 56 => ⟨S_, .i32⟩
  | 57 => ⟨S1024x1024, .i32⟩
  | 58 => ⟨S1024x1024, .i32⟩
  | 59 => ⟨S1024x1024, .i32⟩
  | 60 => ⟨S1024x1024, .i32⟩
  | 61 => ⟨S1024x1024, .i32⟩
  | 62 => ⟨S_, .i32⟩
  | 63 => ⟨S1024x1024, .i32⟩
  | 64 => ⟨S1024x1024, .i32⟩
  | 65 => ⟨S_, .i32⟩
  | 66 => ⟨S1024x1024, .i32⟩
  | 67 => ⟨S1024x1024, .i32⟩
  | 68 => ⟨S1024x1024, .i32⟩
  | 69 => ⟨S1024x1024, .i32⟩
  | 70 => ⟨S1024x1024, .i32⟩
  | 71 => ⟨S_, .i32⟩
  | 72 => ⟨S1024x1024, .i32⟩
  | 73 => ⟨S1024x1024, .i32⟩
  | 74 => ⟨S_, .i32⟩
  | 75 => ⟨S1024x1024, .i32⟩
  | 76 => ⟨S1024x1024, .i32⟩
  | 77 => ⟨S1024x1024, .i32⟩
  | 78 => ⟨S1024x1024, .i32⟩
  | 79 => ⟨S1024x1024, .i32⟩
  | 80 => ⟨S1024x1024, .i32⟩
  | 81 => ⟨S1024x1024, .i32⟩
  | 82 => ⟨S1024x1024, .i32⟩
  | 83 => ⟨S_, .i32⟩
  | 84 => ⟨S1024x1024, .i32⟩
  | 85 => ⟨S1024x1024, .i32⟩
  | 86 => ⟨S1024x1024, .i32⟩
  | 87 => ⟨S_, .i32⟩
  | 88 => ⟨S1024x1024, .i32⟩
  | 89 => ⟨S1024x1024, .i32⟩
  | 90 => ⟨S_, .i32⟩
  | 91 => ⟨S1024x1024, .i32⟩
  | 92 => ⟨S1024x1024, .i32⟩
  | 93 => ⟨S1024x1024, .i32⟩
  | 94 => ⟨S1024x1024, .i32⟩
  | 95 => ⟨S1024x1024, .i32⟩
  | 96 => ⟨S_, .i32⟩
  | 97 => ⟨S1024x1024, .i32⟩
  | 98 => ⟨S1024x1024, .i32⟩
  | 99 => ⟨S_, .i32⟩
  | 100 => ⟨S1024x1024, .i32⟩
  | 101 => ⟨S1024x1024, .i32⟩
  | 102 => ⟨S1024x1024, .i32⟩
  | 103 => ⟨S1024x1024, .i32⟩
  | 104 => ⟨S1024x1024, .i32⟩
  | 105 => ⟨S_, .i32⟩
  | 106 => ⟨S1024x1024, .i32⟩
  | 107 => ⟨S1024x1024, .i32⟩
  | 108 => ⟨S_, .i32⟩
  | 109 => ⟨S1024x1024, .i32⟩
  | 110 => ⟨S1024x1024, .i32⟩
  | 111 => ⟨S1024x1024, .i32⟩
  | 112 => ⟨S1024x1024, .i32⟩
  | 113 => ⟨S1024x1024, .i32⟩
  | 114 => ⟨S_, .i32⟩
  | 115 => ⟨S1024x1024, .i32⟩
  | 116 => ⟨S1024x1024, .i32⟩
  | 117 => ⟨S_, .i32⟩
  | 118 => ⟨S1024x1024, .i32⟩
  | 119 => ⟨S1024x1024, .i32⟩
  | 120 => ⟨S1024x1024, .i32⟩
  | 121 => ⟨S1024x1024, .i32⟩
  | 122 => ⟨S1024x1024, .i32⟩
  | 123 => ⟨S1024x1024, .i32⟩
  | 124 => ⟨S1024x1024, .i32⟩
  | 125 => ⟨S1024x1024, .i32⟩
  | 126 => ⟨S_, .i32⟩
  | 127 => ⟨S1024x1024, .i32⟩
  | _ => ⟨S1024x1024x96, .f32⟩

abbrev hbmTy0_2 (i : Nat) : BufTy := match i % 128 with
  | 0 => ⟨S1024x1024, .i32⟩
  | 1 => ⟨S1024x1024, .i32⟩
  | 2 => ⟨S_, .i32⟩
  | 3 => ⟨S1024x1024, .i32⟩
  | 4 => ⟨S1024x1024, .i32⟩
  | 5 => ⟨S_, .i32⟩
  | 6 => ⟨S1024x1024, .i32⟩
  | 7 => ⟨S1024x1024, .i32⟩
  | 8 => ⟨S1024x1024, .f32⟩
  | 9 => ⟨S_, .f32⟩
  | 10 => ⟨S1024x1024, .f32⟩
  | 11 => ⟨S1024x1024, .f32⟩
  | 12 => ⟨S1x1, .f32⟩
  | 13 => ⟨S1024x1024, .f32⟩
  | 14 => ⟨S1024x1024, .f32⟩
  | 15 => ⟨S1024x1024, .f32⟩
  | 16 => ⟨S1024x1024, .f32⟩
  | 17 => ⟨S1024x1024, .f32⟩
  | 18 => ⟨S1024x1024, .f32⟩
  | 19 => ⟨S1024x1024, .i32⟩
  | 20 => ⟨S1024x1024, .f32⟩
  | 21 => ⟨S1024x1024, .i32⟩
  | 22 => ⟨S_, .i32⟩
  | 23 => ⟨S1024x1024, .i32⟩
  | 24 => ⟨S1024x1024, .i1⟩
  | _ => ⟨S1024x1024x96, .f32⟩

abbrev hbmTy (i : Nat) : BufTy := match i / 128 with
  | 0 => hbmTy0_0 i
  | 1 => hbmTy0_1 i
  | 2 => hbmTy0_2 i
  | _ => ⟨S1024x1024x96, .f32⟩

abbrev bufTy : (tb : Table) → Fin (tcTables nBuf tb) → BufTy
  | .hbm, ⟨i, _⟩ => hbmTy i
  | _, _ => ⟨S1024x1024x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c_1 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_cst_2 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_c : Ref sig .tc := ⟨.hbm, 23, rfl⟩
abbrev main_call0_v10 : Ref sig .tc := ⟨.hbm, 24, rfl⟩
abbrev main_call0_v11 : Ref sig .tc := ⟨.hbm, 25, rfl⟩
abbrev main_call0_c_0 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_call0_c_1 : Ref sig .tc := ⟨.hbm, 30, rfl⟩
abbrev main_call0_v15 : Ref sig .tc := ⟨.hbm, 31, rfl⟩
abbrev main_call0_v16 : Ref sig .tc := ⟨.hbm, 32, rfl⟩
abbrev main_call0_v17 : Ref sig .tc := ⟨.hbm, 33, rfl⟩
abbrev main_call0_v18 : Ref sig .tc := ⟨.hbm, 34, rfl⟩
abbrev main_call0_call0_v0 : Ref sig .tc := ⟨.hbm, 35, rfl⟩
abbrev main_call0_call0_c : Ref sig .tc := ⟨.hbm, 36, rfl⟩
abbrev main_call0_call0_v1 : Ref sig .tc := ⟨.hbm, 37, rfl⟩
abbrev main_call0_call0_v2 : Ref sig .tc := ⟨.hbm, 38, rfl⟩
abbrev main_call0_call0_v3 : Ref sig .tc := ⟨.hbm, 39, rfl⟩
abbrev main_call0_call0_v4 : Ref sig .tc := ⟨.hbm, 40, rfl⟩
abbrev main_call0_call0_v5 : Ref sig .tc := ⟨.hbm, 41, rfl⟩
abbrev main_call0_call0_v6 : Ref sig .tc := ⟨.hbm, 42, rfl⟩
abbrev main_call0_call0_c_0 : Ref sig .tc := ⟨.hbm, 43, rfl⟩
abbrev main_call0_call0_v7 : Ref sig .tc := ⟨.hbm, 44, rfl⟩
abbrev main_call0_call0_v8 : Ref sig .tc := ⟨.hbm, 45, rfl⟩
abbrev main_call0_call0_c_1 : Ref sig .tc := ⟨.hbm, 46, rfl⟩
abbrev main_call0_call0_v9 : Ref sig .tc := ⟨.hbm, 47, rfl⟩
abbrev main_call0_call0_v10 : Ref sig .tc := ⟨.hbm, 48, rfl⟩
abbrev main_call0_call0_v11 : Ref sig .tc := ⟨.hbm, 49, rfl⟩
abbrev main_call0_call0_v12 : Ref sig .tc := ⟨.hbm, 50, rfl⟩
abbrev main_call0_call0_v13 : Ref sig .tc := ⟨.hbm, 51, rfl⟩
abbrev main_call0_call0_c_2 : Ref sig .tc := ⟨.hbm, 52, rfl⟩
abbrev main_call0_call0_v14 : Ref sig .tc := ⟨.hbm, 53, rfl⟩
abbrev main_call0_call0_v15 : Ref sig .tc := ⟨.hbm, 54, rfl⟩
abbrev main_call0_call0_c_3 : Ref sig .tc := ⟨.hbm, 55, rfl⟩
abbrev main_call0_call0_v16 : Ref sig .tc := ⟨.hbm, 56, rfl⟩
abbrev main_call0_call0_v17 : Ref sig .tc := ⟨.hbm, 57, rfl⟩
abbrev main_call0_call0_v18 : Ref sig .tc := ⟨.hbm, 58, rfl⟩
abbrev main_call0_call0_v19 : Ref sig .tc := ⟨.hbm, 59, rfl⟩
abbrev main_call0_call0_v20 : Ref sig .tc := ⟨.hbm, 60, rfl⟩
abbrev main_call0_call0_c_4 : Ref sig .tc := ⟨.hbm, 61, rfl⟩
abbrev main_call0_call0_v21 : Ref sig .tc := ⟨.hbm, 62, rfl⟩
abbrev main_call0_call0_v22 : Ref sig .tc := ⟨.hbm, 63, rfl⟩
abbrev main_call0_call0_c_5 : Ref sig .tc := ⟨.hbm, 64, rfl⟩
abbrev main_call0_call0_v23 : Ref sig .tc := ⟨.hbm, 65, rfl⟩
abbrev main_call0_call0_v24 : Ref sig .tc := ⟨.hbm, 66, rfl⟩
abbrev main_call0_call0_v25 : Ref sig .tc := ⟨.hbm, 67, rfl⟩
abbrev main_call0_call0_v26 : Ref sig .tc := ⟨.hbm, 68, rfl⟩
abbrev main_call0_call0_v27 : Ref sig .tc := ⟨.hbm, 69, rfl⟩
abbrev main_call0_call0_c_6 : Ref sig .tc := ⟨.hbm, 70, rfl⟩
abbrev main_call0_call0_v28 : Ref sig .tc := ⟨.hbm, 71, rfl⟩
abbrev main_call0_call0_v29 : Ref sig .tc := ⟨.hbm, 72, rfl⟩
abbrev main_call0_call0_c_7 : Ref sig .tc := ⟨.hbm, 73, rfl⟩
abbrev main_call0_call0_v30 : Ref sig .tc := ⟨.hbm, 74, rfl⟩
abbrev main_call0_call0_v31 : Ref sig .tc := ⟨.hbm, 75, rfl⟩
abbrev main_call0_call0_v32 : Ref sig .tc := ⟨.hbm, 76, rfl⟩
abbrev main_call0_call0_v33 : Ref sig .tc := ⟨.hbm, 77, rfl⟩
abbrev main_call0_call0_v34 : Ref sig .tc := ⟨.hbm, 78, rfl⟩
abbrev main_call0_call0_v35 : Ref sig .tc := ⟨.hbm, 79, rfl⟩
abbrev main_call0_call0_v36 : Ref sig .tc := ⟨.hbm, 80, rfl⟩
abbrev main_call0_call0_v37 : Ref sig .tc := ⟨.hbm, 81, rfl⟩
abbrev main_call0_call0_c_8 : Ref sig .tc := ⟨.hbm, 82, rfl⟩
abbrev main_call0_call0_v38 : Ref sig .tc := ⟨.hbm, 83, rfl⟩
abbrev main_call0_call0_v39 : Ref sig .tc := ⟨.hbm, 84, rfl⟩
abbrev main_call0_call0_v40 : Ref sig .tc := ⟨.hbm, 85, rfl⟩
abbrev main_call0_call0_c_9 : Ref sig .tc := ⟨.hbm, 86, rfl⟩
abbrev main_call0_call0_v41 : Ref sig .tc := ⟨.hbm, 87, rfl⟩
abbrev main_call0_call0_v42 : Ref sig .tc := ⟨.hbm, 88, rfl⟩
abbrev main_call0_call0_c_10 : Ref sig .tc := ⟨.hbm, 89, rfl⟩
abbrev main_call0_call0_v43 : Ref sig .tc := ⟨.hbm, 90, rfl⟩
abbrev main_call0_call0_v44 : Ref sig .tc := ⟨.hbm, 91, rfl⟩
abbrev main_call0_call0_v45 : Ref sig .tc := ⟨.hbm, 92, rfl⟩
abbrev main_call0_call0_v46 : Ref sig .tc := ⟨.hbm, 93, rfl⟩
abbrev main_call0_call0_v47 : Ref sig .tc := ⟨.hbm, 94, rfl⟩
abbrev main_call0_call0_c_11 : Ref sig .tc := ⟨.hbm, 95, rfl⟩
abbrev main_call0_call0_v48 : Ref sig .tc := ⟨.hbm, 96, rfl⟩
abbrev main_call0_call0_v49 : Ref sig .tc := ⟨.hbm, 97, rfl⟩
abbrev main_call0_call0_c_12 : Ref sig .tc := ⟨.hbm, 98, rfl⟩
abbrev main_call0_call0_v50 : Ref sig .tc := ⟨.hbm, 99, rfl⟩
abbrev main_call0_call0_v51 : Ref sig .tc := ⟨.hbm, 100, rfl⟩
abbrev main_call0_call0_v52 : Ref sig .tc := ⟨.hbm, 101, rfl⟩
abbrev main_call0_call0_v53 : Ref sig .tc := ⟨.hbm, 102, rfl⟩
abbrev main_call0_call0_v54 : Ref sig .tc := ⟨.hbm, 103, rfl⟩
abbrev main_call0_call0_c_13 : Ref sig .tc := ⟨.hbm, 104, rfl⟩
abbrev main_call0_call0_v55 : Ref sig .tc := ⟨.hbm, 105, rfl⟩
abbrev main_call0_call0_v56 : Ref sig .tc := ⟨.hbm, 106, rfl⟩
abbrev main_call0_call0_c_14 : Ref sig .tc := ⟨.hbm, 107, rfl⟩
abbrev main_call0_call0_v57 : Ref sig .tc := ⟨.hbm, 108, rfl⟩
abbrev main_call0_call0_v58 : Ref sig .tc := ⟨.hbm, 109, rfl⟩
abbrev main_call0_call0_v59 : Ref sig .tc := ⟨.hbm, 110, rfl⟩
abbrev main_call0_call0_v60 : Ref sig .tc := ⟨.hbm, 111, rfl⟩
abbrev main_call0_call0_v61 : Ref sig .tc := ⟨.hbm, 112, rfl⟩
abbrev main_call0_call0_c_15 : Ref sig .tc := ⟨.hbm, 113, rfl⟩
abbrev main_call0_call0_v62 : Ref sig .tc := ⟨.hbm, 114, rfl⟩
abbrev main_call0_call0_v63 : Ref sig .tc := ⟨.hbm, 115, rfl⟩
abbrev main_call0_call0_c_16 : Ref sig .tc := ⟨.hbm, 116, rfl⟩
abbrev main_call0_call0_v64 : Ref sig .tc := ⟨.hbm, 117, rfl⟩
abbrev main_call0_call0_v65 : Ref sig .tc := ⟨.hbm, 118, rfl⟩
abbrev main_call0_call0_v66 : Ref sig .tc := ⟨.hbm, 119, rfl⟩
abbrev main_call0_call0_v67 : Ref sig .tc := ⟨.hbm, 120, rfl⟩
abbrev main_call0_call0_v68 : Ref sig .tc := ⟨.hbm, 121, rfl⟩
abbrev main_call0_call0_v69 : Ref sig .tc := ⟨.hbm, 122, rfl⟩
abbrev main_call0_call0_v70 : Ref sig .tc := ⟨.hbm, 123, rfl⟩
abbrev main_call0_call0_v71 : Ref sig .tc := ⟨.hbm, 124, rfl⟩
abbrev main_call0_call0_c_17 : Ref sig .tc := ⟨.hbm, 125, rfl⟩
abbrev main_call0_call0_v72 : Ref sig .tc := ⟨.hbm, 126, rfl⟩
abbrev main_call0_call0_v73 : Ref sig .tc := ⟨.hbm, 127, rfl⟩
abbrev main_call0_call0_v74 : Ref sig .tc := ⟨.hbm, 128, rfl⟩
abbrev main_call0_call0_c_18 : Ref sig .tc := ⟨.hbm, 129, rfl⟩
abbrev main_call0_call0_v75 : Ref sig .tc := ⟨.hbm, 130, rfl⟩
abbrev main_call0_call0_v76 : Ref sig .tc := ⟨.hbm, 131, rfl⟩
abbrev main_call0_call0_c_19 : Ref sig .tc := ⟨.hbm, 132, rfl⟩
abbrev main_call0_call0_v77 : Ref sig .tc := ⟨.hbm, 133, rfl⟩
abbrev main_call0_call0_v78 : Ref sig .tc := ⟨.hbm, 134, rfl⟩
abbrev main_call0_call0_v79 : Ref sig .tc := ⟨.hbm, 135, rfl⟩
abbrev main_call0_call0_v80 : Ref sig .tc := ⟨.hbm, 136, rfl⟩
abbrev main_call0_call0_v81 : Ref sig .tc := ⟨.hbm, 137, rfl⟩
abbrev main_call0_call0_c_20 : Ref sig .tc := ⟨.hbm, 138, rfl⟩
abbrev main_call0_call0_v82 : Ref sig .tc := ⟨.hbm, 139, rfl⟩
abbrev main_call0_call0_v83 : Ref sig .tc := ⟨.hbm, 140, rfl⟩
abbrev main_call0_call0_c_21 : Ref sig .tc := ⟨.hbm, 141, rfl⟩
abbrev main_call0_call0_v84 : Ref sig .tc := ⟨.hbm, 142, rfl⟩
abbrev main_call0_call0_v85 : Ref sig .tc := ⟨.hbm, 143, rfl⟩
abbrev main_call0_call0_v86 : Ref sig .tc := ⟨.hbm, 144, rfl⟩
abbrev main_call0_call0_v87 : Ref sig .tc := ⟨.hbm, 145, rfl⟩
abbrev main_call0_call0_v88 : Ref sig .tc := ⟨.hbm, 146, rfl⟩
abbrev main_call0_call0_c_22 : Ref sig .tc := ⟨.hbm, 147, rfl⟩
abbrev main_call0_call0_v89 : Ref sig .tc := ⟨.hbm, 148, rfl⟩
abbrev main_call0_call0_v90 : Ref sig .tc := ⟨.hbm, 149, rfl⟩
abbrev main_call0_call0_c_23 : Ref sig .tc := ⟨.hbm, 150, rfl⟩
abbrev main_call0_call0_v91 : Ref sig .tc := ⟨.hbm, 151, rfl⟩
abbrev main_call0_call0_v92 : Ref sig .tc := ⟨.hbm, 152, rfl⟩
abbrev main_call0_call0_v93 : Ref sig .tc := ⟨.hbm, 153, rfl⟩
abbrev main_call0_call0_v94 : Ref sig .tc := ⟨.hbm, 154, rfl⟩
abbrev main_call0_call0_v95 : Ref sig .tc := ⟨.hbm, 155, rfl⟩
abbrev main_call0_call0_c_24 : Ref sig .tc := ⟨.hbm, 156, rfl⟩
abbrev main_call0_call0_v96 : Ref sig .tc := ⟨.hbm, 157, rfl⟩
abbrev main_call0_call0_v97 : Ref sig .tc := ⟨.hbm, 158, rfl⟩
abbrev main_call0_call0_c_25 : Ref sig .tc := ⟨.hbm, 159, rfl⟩
abbrev main_call0_call0_v98 : Ref sig .tc := ⟨.hbm, 160, rfl⟩
abbrev main_call0_call0_v99 : Ref sig .tc := ⟨.hbm, 161, rfl⟩
abbrev main_call0_call0_v100 : Ref sig .tc := ⟨.hbm, 162, rfl⟩
abbrev main_call0_call0_v101 : Ref sig .tc := ⟨.hbm, 163, rfl⟩
abbrev main_call0_call0_v102 : Ref sig .tc := ⟨.hbm, 164, rfl⟩
abbrev main_call0_call0_v103 : Ref sig .tc := ⟨.hbm, 165, rfl⟩
abbrev main_call0_call0_v104 : Ref sig .tc := ⟨.hbm, 166, rfl⟩
abbrev main_call0_call0_v105 : Ref sig .tc := ⟨.hbm, 167, rfl⟩
abbrev main_call0_call0_c_26 : Ref sig .tc := ⟨.hbm, 168, rfl⟩
abbrev main_call0_call0_v106 : Ref sig .tc := ⟨.hbm, 169, rfl⟩
abbrev main_call0_call0_v107 : Ref sig .tc := ⟨.hbm, 170, rfl⟩
abbrev main_call0_call0_v108 : Ref sig .tc := ⟨.hbm, 171, rfl⟩
abbrev main_call0_call0_c_27 : Ref sig .tc := ⟨.hbm, 172, rfl⟩
abbrev main_call0_call0_v109 : Ref sig .tc := ⟨.hbm, 173, rfl⟩
abbrev main_call0_call0_v110 : Ref sig .tc := ⟨.hbm, 174, rfl⟩
abbrev main_call0_call0_c_28 : Ref sig .tc := ⟨.hbm, 175, rfl⟩
abbrev main_call0_call0_v111 : Ref sig .tc := ⟨.hbm, 176, rfl⟩
abbrev main_call0_call0_v112 : Ref sig .tc := ⟨.hbm, 177, rfl⟩
abbrev main_call0_call0_v113 : Ref sig .tc := ⟨.hbm, 178, rfl⟩
abbrev main_call0_call0_v114 : Ref sig .tc := ⟨.hbm, 179, rfl⟩
abbrev main_call0_call0_v115 : Ref sig .tc := ⟨.hbm, 180, rfl⟩
abbrev main_call0_call0_c_29 : Ref sig .tc := ⟨.hbm, 181, rfl⟩
abbrev main_call0_call0_v116 : Ref sig .tc := ⟨.hbm, 182, rfl⟩
abbrev main_call0_call0_v117 : Ref sig .tc := ⟨.hbm, 183, rfl⟩
abbrev main_call0_call0_c_30 : Ref sig .tc := ⟨.hbm, 184, rfl⟩
abbrev main_call0_call0_v118 : Ref sig .tc := ⟨.hbm, 185, rfl⟩
abbrev main_call0_call0_v119 : Ref sig .tc := ⟨.hbm, 186, rfl⟩
abbrev main_call0_call0_v120 : Ref sig .tc := ⟨.hbm, 187, rfl⟩
abbrev main_call0_call0_v121 : Ref sig .tc := ⟨.hbm, 188, rfl⟩
abbrev main_call0_call0_v122 : Ref sig .tc := ⟨.hbm, 189, rfl⟩
abbrev main_call0_call0_c_31 : Ref sig .tc := ⟨.hbm, 190, rfl⟩
abbrev main_call0_call0_v123 : Ref sig .tc := ⟨.hbm, 191, rfl⟩
abbrev main_call0_call0_v124 : Ref sig .tc := ⟨.hbm, 192, rfl⟩
abbrev main_call0_call0_c_32 : Ref sig .tc := ⟨.hbm, 193, rfl⟩
abbrev main_call0_call0_v125 : Ref sig .tc := ⟨.hbm, 194, rfl⟩
abbrev main_call0_call0_v126 : Ref sig .tc := ⟨.hbm, 195, rfl⟩
abbrev main_call0_call0_v127 : Ref sig .tc := ⟨.hbm, 196, rfl⟩
abbrev main_call0_call0_v128 : Ref sig .tc := ⟨.hbm, 197, rfl⟩
abbrev main_call0_call0_v129 : Ref sig .tc := ⟨.hbm, 198, rfl⟩
abbrev main_call0_call0_c_33 : Ref sig .tc := ⟨.hbm, 199, rfl⟩
abbrev main_call0_call0_v130 : Ref sig .tc := ⟨.hbm, 200, rfl⟩
abbrev main_call0_call0_v131 : Ref sig .tc := ⟨.hbm, 201, rfl⟩
abbrev main_call0_call0_c_34 : Ref sig .tc := ⟨.hbm, 202, rfl⟩
abbrev main_call0_call0_v132 : Ref sig .tc := ⟨.hbm, 203, rfl⟩
abbrev main_call0_call0_v133 : Ref sig .tc := ⟨.hbm, 204, rfl⟩
abbrev main_call0_call0_v134 : Ref sig .tc := ⟨.hbm, 205, rfl⟩
abbrev main_call0_call0_v135 : Ref sig .tc := ⟨.hbm, 206, rfl⟩
abbrev main_call0_call0_v136 : Ref sig .tc := ⟨.hbm, 207, rfl⟩
abbrev main_call0_call0_v137 : Ref sig .tc := ⟨.hbm, 208, rfl⟩
abbrev main_call0_call0_v138 : Ref sig .tc := ⟨.hbm, 209, rfl⟩
abbrev main_call0_call0_v139 : Ref sig .tc := ⟨.hbm, 210, rfl⟩
abbrev main_call0_call0_c_35 : Ref sig .tc := ⟨.hbm, 211, rfl⟩
abbrev main_call0_call0_v140 : Ref sig .tc := ⟨.hbm, 212, rfl⟩
abbrev main_call0_call0_v141 : Ref sig .tc := ⟨.hbm, 213, rfl⟩
abbrev main_call0_call0_v142 : Ref sig .tc := ⟨.hbm, 214, rfl⟩
abbrev main_call0_call0_c_36 : Ref sig .tc := ⟨.hbm, 215, rfl⟩
abbrev main_call0_call0_v143 : Ref sig .tc := ⟨.hbm, 216, rfl⟩
abbrev main_call0_call0_v144 : Ref sig .tc := ⟨.hbm, 217, rfl⟩
abbrev main_call0_call0_c_37 : Ref sig .tc := ⟨.hbm, 218, rfl⟩
abbrev main_call0_call0_v145 : Ref sig .tc := ⟨.hbm, 219, rfl⟩
abbrev main_call0_call0_v146 : Ref sig .tc := ⟨.hbm, 220, rfl⟩
abbrev main_call0_call0_v147 : Ref sig .tc := ⟨.hbm, 221, rfl⟩
abbrev main_call0_call0_v148 : Ref sig .tc := ⟨.hbm, 222, rfl⟩
abbrev main_call0_call0_v149 : Ref sig .tc := ⟨.hbm, 223, rfl⟩
abbrev main_call0_call0_c_38 : Ref sig .tc := ⟨.hbm, 224, rfl⟩
abbrev main_call0_call0_v150 : Ref sig .tc := ⟨.hbm, 225, rfl⟩
abbrev main_call0_call0_v151 : Ref sig .tc := ⟨.hbm, 226, rfl⟩
abbrev main_call0_call0_c_39 : Ref sig .tc := ⟨.hbm, 227, rfl⟩
abbrev main_call0_call0_v152 : Ref sig .tc := ⟨.hbm, 228, rfl⟩
abbrev main_call0_call0_v153 : Ref sig .tc := ⟨.hbm, 229, rfl⟩
abbrev main_call0_call0_v154 : Ref sig .tc := ⟨.hbm, 230, rfl⟩
abbrev main_call0_call0_v155 : Ref sig .tc := ⟨.hbm, 231, rfl⟩
abbrev main_call0_call0_v156 : Ref sig .tc := ⟨.hbm, 232, rfl⟩
abbrev main_call0_call0_c_40 : Ref sig .tc := ⟨.hbm, 233, rfl⟩
abbrev main_call0_call0_v157 : Ref sig .tc := ⟨.hbm, 234, rfl⟩
abbrev main_call0_call0_v158 : Ref sig .tc := ⟨.hbm, 235, rfl⟩
abbrev main_call0_call0_c_41 : Ref sig .tc := ⟨.hbm, 236, rfl⟩
abbrev main_call0_call0_v159 : Ref sig .tc := ⟨.hbm, 237, rfl⟩
abbrev main_call0_call0_v160 : Ref sig .tc := ⟨.hbm, 238, rfl⟩
abbrev main_call0_call0_v161 : Ref sig .tc := ⟨.hbm, 239, rfl⟩
abbrev main_call0_call0_v162 : Ref sig .tc := ⟨.hbm, 240, rfl⟩
abbrev main_call0_call0_v163 : Ref sig .tc := ⟨.hbm, 241, rfl⟩
abbrev main_call0_call0_c_42 : Ref sig .tc := ⟨.hbm, 242, rfl⟩
abbrev main_call0_call0_v164 : Ref sig .tc := ⟨.hbm, 243, rfl⟩
abbrev main_call0_call0_v165 : Ref sig .tc := ⟨.hbm, 244, rfl⟩
abbrev main_call0_call0_c_43 : Ref sig .tc := ⟨.hbm, 245, rfl⟩
abbrev main_call0_call0_v166 : Ref sig .tc := ⟨.hbm, 246, rfl⟩
abbrev main_call0_call0_v167 : Ref sig .tc := ⟨.hbm, 247, rfl⟩
abbrev main_call0_call0_v168 : Ref sig .tc := ⟨.hbm, 248, rfl⟩
abbrev main_call0_call0_v169 : Ref sig .tc := ⟨.hbm, 249, rfl⟩
abbrev main_call0_call0_v170 : Ref sig .tc := ⟨.hbm, 250, rfl⟩
abbrev main_call0_v19_0 : Ref sig .tc := ⟨.hbm, 251, rfl⟩
abbrev main_call0_call0_v172 : Ref sig .tc := ⟨.hbm, 252, rfl⟩
abbrev main_call0_call0_v173 : Ref sig .tc := ⟨.hbm, 253, rfl⟩
abbrev main_call0_call0_c_44 : Ref sig .tc := ⟨.hbm, 254, rfl⟩
abbrev main_call0_call0_v174 : Ref sig .tc := ⟨.hbm, 255, rfl⟩
abbrev main_call0_v19_1 : Ref sig .tc := ⟨.hbm, 256, rfl⟩
abbrev main_call0_v20 : Ref sig .tc := ⟨.hbm, 257, rfl⟩
abbrev main_call0_c_2 : Ref sig .tc := ⟨.hbm, 258, rfl⟩
abbrev main_call0_v21 : Ref sig .tc := ⟨.hbm, 259, rfl⟩
abbrev main_call0_v22 : Ref sig .tc := ⟨.hbm, 260, rfl⟩
abbrev main_call0_c_3 : Ref sig .tc := ⟨.hbm, 261, rfl⟩
abbrev main_call0_v23 : Ref sig .tc := ⟨.hbm, 262, rfl⟩
abbrev main_call0_v24 : Ref sig .tc := ⟨.hbm, 263, rfl⟩
abbrev main_call0_v25 : Ref sig .tc := ⟨.hbm, 264, rfl⟩
abbrev main_call0_cst : Ref sig .tc := ⟨.hbm, 265, rfl⟩
abbrev main_call0_v26 : Ref sig .tc := ⟨.hbm, 266, rfl⟩
abbrev main_call0_v27 : Ref sig .tc := ⟨.hbm, 267, rfl⟩
abbrev main_call0_v28 : Ref sig .tc := ⟨.hbm, 268, rfl⟩
abbrev main_call0_v29 : Ref sig .tc := ⟨.hbm, 269, rfl⟩
abbrev main_call0_v30 : Ref sig .tc := ⟨.hbm, 270, rfl⟩
abbrev main_call0_v31 : Ref sig .tc := ⟨.hbm, 271, rfl⟩
abbrev main_call0_v32 : Ref sig .tc := ⟨.hbm, 272, rfl⟩
abbrev main_call0_v33 : Ref sig .tc := ⟨.hbm, 273, rfl⟩
abbrev main_v7 : Ref sig .tc := ⟨.hbm, 274, rfl⟩
abbrev main_call1_v0 : Ref sig .tc := ⟨.hbm, 275, rfl⟩
abbrev main_call1_v1_0 : Ref sig .tc := ⟨.hbm, 276, rfl⟩
abbrev main_v8 : Ref sig .tc := ⟨.hbm, 277, rfl⟩
abbrev main_c_3 : Ref sig .tc := ⟨.hbm, 278, rfl⟩
abbrev main_v9 : Ref sig .tc := ⟨.hbm, 279, rfl⟩
abbrev main_v10 : Ref sig .tc := ⟨.hbm, 280, rfl⟩

abbrev nD : Nat := 1
abbrev τ : Topo := Topo.v7x

variable {F : FTy → Type} [FloatOps F]
-- ==== Proof.KernelRun.lean ====
/- The kernel's run over any number type: each grid point stores eight whole rows of its block, and the program ends with
   those blocks in its array, its argument unchanged and its semaphores at zero. -/
module

public import proofs.«01_k».proof.Proof.Gen.KernelIdeal.Frame.RunA
public import Idealize.ShloMosaic.Lib.Claim

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The eight rows a run stores cover the output's block. -/
theorem cover0_A_0 (c : Dev nD) (i : grid0.Coords) (arg1 : Memref sig .tc .vmem S8x1024 .i32) (harg1 : arg1.IsWhole) (arg2 : Memref sig .tc .vmem S8x1024 .i32) (harg2 : arg2.IsWhole)
     (y : S8x1024.Idx) :
    ∃ pc ∈ (kernelRun0_A (F := F) c i arg1 harg1 arg2 harg2 ).1, y ∈ pc.1.set :=
  View.cover_of_tiledL (kernelRun0_A (F := F) c i arg1 harg1 arg2 harg2 ).1 S1x1024.size (by sl_kernel_rfl) y

/-- The block a run leaves in the output's staging buffer. -/
def out0_A_0 (c : Dev nD) (i : grid0.Coords) (arg1 : Memref sig .tc .vmem S8x1024 .i32) (harg1 : arg1.IsWhole) (arg2 : Memref sig .tc .vmem S8x1024 .i32) (harg2 : arg2.IsWhole)
     : Vec F S8x1024 .i32 :=
  VO0_0.read (Elt F) (VO0_0.writes (Elt F) VO0_0.junk (kernelRun0_A (F := F) c i arg1 harg1 arg2 harg2 ).1)

/-! ## The blocks, point by point -/

/-- The block grid point `t` leaves. -/
def outsAt0 (c : Dev nD) (t : Fin cfg0.N) : Vec F S8x1024 .i32 :=
  out0_A_0 (F := F) c (grid0.coords t) (ms0_0 t) (hs0_0 t) scM0_0 (Memref.isWhole_whole _)

/-! ## The pipeline -/

/-- What is known of the pipeline on core `c`: its array starts as the program finds it, point `t` leaves the block
    `outsAt0`, and between points nothing is kept but the scratch block and the random-number register. -/
def dats (_ : Fin 1) (c : Dev nD) : Dat τ (Elt F) Unit ℕ (UR sig nD τ) ℕ cfg0 c where
  A w := V m c (Pipeline.arrRef spec0 w)
  after w t := match w with
    | ⟨0, _⟩ => outsAt0 (F := F) c t
  Φ _ := Pipeline.ΦA spec0 c
  q _ := fullShare
  owed _ := 0

/-- The array starts as the program finds it. -/
theorem A_eq (c : Dev nD) (w : Fin cfg0.W) : (dats m 0 c).A w = V m c (Pipeline.arrRef spec0 w) := by
  dsimp only [dats]

/-- After point `t` the staging buffer holds that point's block. -/
theorem after0_0 (c : Dev nD) (t : Fin cfg0.N) : (dats m 0 c).after 0 t = outsAt0 (F := F) c t := by dsimp only [dats]

/-! ## The body at one grid point -/

/-- What the body may use at point `t`: the scratch block, and the staging buffer at whatever it holds. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d)))

/-- What it gives back: the same, with the point's block in the staging buffer. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t))

/-- From the first the body reaches the second, at every point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl,
    after0_0]
  rw [show (dats m 0 c).Φ t.castSucc = Pipeline.ΦA spec0 c from rfl, PhiA0_eq]
  unfold outsAt0
  unfold out0_A_0
  iintro ⟨⟨HS0, Hg⟩, Ho, ⟨%d0, H0⟩⟩
  iapply ((kernelRun0_A (F := F) c (grid0.coords t) _ _ _ _ ).2 Set.univ _)
  isplitl [H0]; · iexists _; iexact H0
  isplitl [HS0]; · iexact HS0
  iintro ⟨⟨%e0, H0⟩, HS0⟩
  isplitl [HS0 Hg]
  · isplitl [HS0]
    · iexact HS0
    iexact Hg
  isplitl [Ho]; · iexact Ho
  unfold owns; iexists _; isplitr
  swap; · iexact H0
  ipureintro; exact View.read_writes_of_cover _ _ _ _ _ (cover0_A_0 (F := F) c _ _ _ _ _ )

/-- The procedure the pipeline calls at point `t` is that body. -/
theorem defs₀_row (t : Fin cfg0.N) :
    defs₀ (F := F) .tc cfg0.body (cfg0.bodyArgs t (cfg0.slots t)) = bodyAt0 t := by
  unfold defs₀; rw [Defs.onTc_tc]

/-- So the pipeline's requirement on its body is met at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
set_option maxHeartbeats 800000 in
/-- Every run of the program ends with the array at the blocks the points leave, the host lines after it done, and every
    semaphore counter at zero. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The same, of the memory alone. -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- The argument ends as it was. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  frame_of m ρ (dats m) (A_eq m) (run_main m ρ)

/-- The frame: the argument ends as it was and every semaphore counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  θ_run_and (unchanged m ρ) ((θ_run defs _ _).mono (fun _ h => h.2) (run_main_quiescent m ρ))

end Cert.KernelIdeal.Run

end
-- ==== Proof.RefLine.lean ====
/- The reference program as one line of host operations: its two called functions are inlined, and the
   operations of the line are read off the printed program. -/
module

public import proofs.«01_k».proof.Defs
public import proofs.«01_k».proof.Proof.Gen.ReferenceIdeal
public import Idealize.ShloMosaic.Lib.Claim
public import Idealize.ShloMosaic.Lib.StableHlo.RunRead

@[expose] public section

noncomputable section

namespace Cert.ReferenceIdeal.Line

open Idealize.ShloMosaic Idealize.ShloMosaic.TcCoe Idealize.SL.Sem Cert.ReferenceIdeal
open Idealize.ShloMosaic.StableHlo (IsSeq seq_append seq after)

variable {F : FTy → Type} [FloatOps F]

/-- A line continued by a line is the concatenated line. -/
theorem isSeq_append {nD : Nat} {τ : Topo} {sig : RefSig} {Val : EltTy → Type} {Λ : Labels}
    {p k : Prog (TpuEff nD τ sig Val Λ .tc) PUnit} {a b : List (HloOp τ sig Val)}
    (hp : IsSeq p a) (hk : IsSeq k b) : IsSeq (p >>= fun _ => k) (a ++ b) := by
  unfold IsSeq at *; rw [hp, hk, seq_append]

/-- One operation alone is a line. -/
theorem isSeq_one {nD : Nat} {τ : Topo} {sig : RefSig} {Val : EltTy → Type} {Λ : Labels} {op : HloOp τ sig Val} :
    IsSeq (nD := nD) (Λ := Λ) (hlo rfl op fun _ => .ret (⟨⟩ : PUnit)) [op] := by
  unfold IsSeq seq seq; rfl

set_option maxRecDepth 20000

/-- The first part of the block function. -/
def part0 : { l : List (HloOp τ sig (Elt F)) // IsSeq (fn_threefry2x32.body_part0 (F := F) main_call0.v5 main_call0.v7
    main_call0.v18 main_call0.v17 main_call0.call0) l } := by
  apply Subtype.mk
  · unfold fn_threefry2x32.body_part0
    repeat (first | exact isSeq_one | exact IsSeq.nil | apply IsSeq.cons)

/-- The second part of the block function. -/
def part1 : { l : List (HloOp τ sig (Elt F)) // IsSeq (fn_threefry2x32.body_part1 (F := F) main_call0.v5 main_call0.v7
    main_call0.v18 main_call0.v17 main_call0.call0) l } := by
  apply Subtype.mk
  · unfold fn_threefry2x32.body_part1
    repeat (first | exact isSeq_one | exact IsSeq.nil | apply IsSeq.cons)

/-- The third part of the block function. -/
def part2 : { l : List (HloOp τ sig (Elt F)) // IsSeq (fn_threefry2x32.body_part2 (F := F) main_call0.v5 main_call0.v7
    main_call0.v18 main_call0.v17 main_call0.call0) l } := by
  apply Subtype.mk
  · unfold fn_threefry2x32.body_part2
    repeat (first | exact isSeq_one | exact IsSeq.nil | apply IsSeq.cons)

/-- The fourth part of the block function. -/
def part3 : { l : List (HloOp τ sig (Elt F)) // IsSeq (fn_threefry2x32.body_part3 (F := F) main_call0.v5 main_call0.v7
    main_call0.v18 main_call0.v17 main_call0.call0) l } := by
  apply Subtype.mk
  · unfold fn_threefry2x32.body_part3
    repeat (first | exact isSeq_one | exact IsSeq.nil | apply IsSeq.cons)

/-- The block function's body: its four parts, one after the other. -/
def block : { l : List (HloOp τ sig (Elt F)) // IsSeq (fn_threefry2x32.body (F := F) main_call0.v5 main_call0.v7
    main_call0.v18 main_call0.v17 main_call0.call0) l } :=
  ⟨part0.1 ++ (part1.1 ++ (part2.1 ++ part3.1)),
    isSeq_append part0.2 (isSeq_append part1.2 (isSeq_append part2.2 part3.2))⟩

/-- The uniform generator's body. -/
def uniform : { l : List (HloOp τ sig (Elt F)) // IsSeq (fn_uniform.body (F := F) (.of main_v6) (.of main_cst)
    (.of main_cst_2) main_call0) l } := by
  apply Subtype.mk
  · unfold fn_uniform.body
    repeat (first | exact IsSeq.nil | refine isSeq_append block.2 ?_ | apply IsSeq.cons)

/-- The sort's body. -/
def argsort : { l : List (HloOp τ sig (Elt F)) // IsSeq (fn_argsort.body (F := F) (.of main_v7) main_call1) l } := by
  apply Subtype.mk
  · unfold fn_argsort.body
    repeat (first | exact IsSeq.nil | apply IsSeq.cons)

/-- The whole program. -/
def line : { l : List (HloOp τ sig (Elt F)) // ∀ d, IsSeq (main (F := F) d) l } := by
  apply Subtype.mk
  · intro d
    unfold main
    repeat (first | exact IsSeq.nil | refine isSeq_append uniform.2 ?_ | refine isSeq_append argsort.2 ?_ | apply IsSeq.cons)

/-- The program's operations, in order. -/
def ops : List (HloOp τ sig (Elt F)) := line.1

theorem ops_length : (ops (F := F)).length = 280 := rfl

theorem main_eq (d : Dev nD) : IsSeq (main (F := F) d) ops := line.2 d

/-- What the run asks of an operation: it names buffers of the program and leaves none of its results unwritten. -/
def Fit (op : HloOp τ sig (Elt F)) : Prop := op.bufs ⊆ StableHlo.tcRefs τ sig ∧ op.fresh = ∅

/-- A line all of whose operations fit. -/
def Fits (l : List (HloOp τ sig (Elt F))) : Prop := ∀ op ∈ l, Fit op

theorem fits_nil : Fits ([] : List (HloOp τ sig (Elt F))) := fun _ h => nomatch h

theorem fits_cons {op : HloOp τ sig (Elt F)} {l : List (HloOp τ sig (Elt F))} (hs : op.bufs ⊆ StableHlo.tcRefs τ sig)
    (hf : op.fresh = ∅) (hl : Fits l) : Fits (op :: l) := fun _ h => by
  cases h with
  | head => exact ⟨hs, hf⟩
  | tail _ h => exact hl _ h

theorem fits_append {a b : List (HloOp τ sig (Elt F))} (ha : Fits a) (hb : Fits b) : Fits (a ++ b) := fun op h =>
  (List.mem_append.mp h).elim (ha op) (hb op)

theorem fits_part0 : Fits (part0 (F := F)).1 := by
  unfold part0; repeat (first | exact fits_nil | refine fits_cons (by simp) rfl ?_)

theorem fits_part1 : Fits (part1 (F := F)).1 := by
  unfold part1; repeat (first | exact fits_nil | refine fits_cons (by simp) rfl ?_)

theorem fits_part2 : Fits (part2 (F := F)).1 := by
  unfold part2; repeat (first | exact fits_nil | refine fits_cons (by simp) rfl ?_)

theorem fits_part3 : Fits (part3 (F := F)).1 := by
  unfold part3; repeat (first | exact fits_nil | refine fits_cons (by simp) rfl ?_)

theorem fits_block : Fits (block (F := F)).1 :=
  fits_append fits_part0 (fits_append fits_part1 (fits_append fits_part2 fits_part3))

theorem fits_uniform : Fits (uniform (F := F)).1 := by
  unfold uniform; repeat (first | exact fits_nil | refine fits_append fits_block ?_ | refine fits_cons (by simp) rfl ?_)

theorem fits_argsort : Fits (argsort (F := F)).1 := by
  unfold argsort; repeat (first | exact fits_nil | refine fits_cons (by simp) rfl ?_)

theorem fits_ops : Fits (ops (F := F)) := by
  unfold ops line
  repeat (first | exact fits_nil | refine fits_append fits_uniform ?_ | refine fits_append fits_argsort ?_ |
    refine fits_cons (by simp) rfl ?_)

theorem ops_sub : (ops (F := F)).Forall fun op => op.bufs ⊆ StableHlo.tcRefs τ sig :=
  List.forall_iff_forall_mem.mpr fun op h => (fits_ops op h).1

theorem ops_fresh : ∀ op ∈ ops (F := F), op.fresh = ∅ := fun op h => (fits_ops op h).2

end Cert.ReferenceIdeal.Line
end
-- ==== Proof.RefRun.lean ====
/- The reference's run: it ends with every buffer at what the line of operations leaves there, its argument unchanged. -/
module

public import proofs.«01_k».proof.Proof.RefLine
public import Idealize.ShloMosaic.Adequacy

@[expose] public section

noncomputable section

namespace Cert.ReferenceIdeal.Line

open Idealize.ShloMosaic Idealize.ShloMosaic.TcCoe Idealize.SL.Sem Cert.ReferenceIdeal
open Idealize.ShloMosaic.StableHlo (after launchContents)

variable {F : FTy → Type} [FloatOps F]

set_option maxRecDepth 20000

/-- From any memory every run of the reference terminates with each buffer at what the line leaves there. -/
theorem run (m : (ℓ : Loc nD τ sig) → Buf (Elt F) ℓ) (ρ : Dev nD → PrngReg) :
    θ_run (defs (F := F)) (onTc (τ := τ) (main (F := F))) ⟨m, fun _ => 0, ρ⟩ fun r =>
      ∀ (d : Dev nD) (b : Ref sig .tc), r.2.mem ((d.tc : Thread nD τ).loc b)
        = after ops (launchContents m d) (Proc.devRef .tc b) :=
  StableHlo.run_hlo _ _ main_eq (by decide) (by decide) ops_sub ops_fresh m ρ

/-- No operation writes the argument. -/
theorem arg_kept (V : Valuation τ sig (Elt F)) : after ops V (Proc.devRef .tc main_arg0) = V (Proc.devRef .tc main_arg0) := by
  after_reads_simp

theorem run_frame (m : (ℓ : Loc nD τ sig) → Buf (Elt F) ℓ) (ρ : Dev nD → PrngReg) :
    θ_run (defs (F := F)) (onTc (τ := τ) (main (F := F))) ⟨m, fun _ => 0, ρ⟩ fun r =>
      (∀ d : Dev nD, r.2.mem ((d.tc : Thread nD τ).loc main_arg0) = m ((d.tc : Thread nD τ).loc main_arg0))
        ∧ r.2.sem = fun _ => 0 :=
  (θ_run (defs (F := F)) _ _).mono (fun r h => ⟨fun d => (h d main_arg0).trans (arg_kept _),
    sem_eq_zero_of_no_sems (by decide) r.2⟩) (run m ρ)

end Cert.ReferenceIdeal.Line
end
-- ==== Proof.Spec.lean ====
/- The random words both programs draw: the Threefry-2x32 block function of the seed 42, on the counter of one
   matrix entry, as a function of one 32-bit word. -/
module

public import Mathlib.Data.BitVec

@[expose] public section

namespace Cert.Spec

/-- One mixing round: add, then rotate the second word left by `r` (right by `s = 32 - r`) and xor. -/
def round (r s : BitVec 32) (p : BitVec 32 × BitVec 32) : BitVec 32 × BitVec 32 :=
  (p.1 + p.2, (p.1 + p.2) ^^^ ((p.2 <<< r) ||| (p.2 >>> s)))

/-- A key injection: `a` into the first word, `b` and the group's number into the second. -/
def inject (a b n : BitVec 32) (p : BitVec 32 × BitVec 32) : BitVec 32 × BitVec 32 := (p.1 + a, p.2 + b + n)

/-- The four rounds of the first, third and fifth groups. -/
def roundsA (p : BitVec 32 × BitVec 32) : BitVec 32 × BitVec 32 :=
  round 6 26 (round 26 6 (round 15 17 (round 13 19 p)))

/-- The four rounds of the second and fourth groups. -/
def roundsB (p : BitVec 32 × BitVec 32) : BitVec 32 × BitVec 32 :=
  round 24 8 (round 16 16 (round 29 3 (round 17 15 p)))

/-- The twenty rounds under the three key words, from the counter with the first injection already in it. -/
def threefry (k0 k1 k2 : BitVec 32) (p : BitVec 32 × BitVec 32) : BitVec 32 × BitVec 32 :=
  inject k2 k0 5#32 (roundsA (inject k1 k2 4#32 (roundsB (inject k0 k1 3#32 (roundsA (inject k2 k0 2#32 (roundsB
    (inject k1 k2 1#32 (roundsA p)))))))))

/-- The third key word of the seed 42. -/
def ks2 : BitVec 32 := 0#32 ^^^ 42#32 ^^^ 466688986#32

/-- The 32 random bits of the entry with flat number `c`. -/
def bits (c : BitVec 32) : BitVec 32 :=
  (threefry 0#32 42#32 ks2 (0#32, c + 42#32)).1 ^^^ (threefry 0#32 42#32 ks2 (0#32, c + 42#32)).2

/-- Its mantissa: the top 23 bits. -/
def mant (c : BitVec 32) : BitVec 32 := bits c >>> 9#32

end Cert.Spec
-- ==== Proof.KernelWords.lean ====
/- The random words the kernel draws: entry by entry, the values the kernel body computes for its scratch block and
   for the tail of one row are the mantissas of the Threefry words of the entries' flat numbers. -/
module

public import proofs.«01_k».proof.Proof.Spec
public import proofs.«01_k».proof.Proof.Gen.KernelIdeal.Skeleton
public import Idealize.ShloMosaic.Lib.Pipeline.Value

@[expose] public section

noncomputable section

namespace Cert.KernelIdeal.Words

open Idealize.ShloMosaic Cert.KernelIdeal Cert.KernelIdeal.Gen Cert.Spec

/-- The second word rotated left by `r`. -/
def rot (r s x : BitVec 32) : BitVec 32 := (x <<< r) ||| (x >>> s)

/-! ## Pieces of a group put together -/

theorem fold_inject (K : BitVec 32) (p : BitVec 32 × BitVec 32) :
    (p.1 + 42#32, p.2 + K + 1#32) = inject 42#32 K 1#32 p := rfl
theorem fold_second (p : BitVec 32 × BitVec 32) :
    (p.1 + p.2, (p.1 + p.2) ^^^ rot 15#32 17#32 p.2) = round 15#32 17#32 p := rfl
theorem fold_third (p : BitVec 32 × BitVec 32) :
    ((round 16#32 16#32 p).1, (round 16#32 16#32 p).1 ^^^ rot 16#32 16#32 p.2) = round 16#32 16#32 p := rfl
theorem foldA (p : BitVec 32 × BitVec 32) :
    round 6#32 26#32 (round 26#32 6#32 (round 15#32 17#32 (round 13#32 19#32 p))) = roundsA p := rfl
theorem foldB (p : BitVec 32 × BitVec 32) :
    round 24#32 8#32 (round 16#32 16#32 (round 29#32 3#32 (round 17#32 15#32 p))) = roundsB p := rfl

/-! ## The tail of one row -/

section tail
variable (K v0 : BitVec 32) (x y : IVec S256x1 32) (t : Fin k0_t1_loop.trips) (j : S256x1.Idx)

/-- The flat number of a tail entry. -/
def tailFlat : BitVec 32 := (v0 + Scf.iv 0#32 1#32 t) * 1024#32 + 768#32 + x j

theorem t1_snd : k0_pay11 v0 x 0#32 1#32 t j = (roundsA (0#32, tailFlat v0 x t j + 42#32)).2 := rfl
theorem t1_fst : k0_pay12 v0 x 0#32 1#32 t j = (roundsA (0#32, tailFlat v0 x t j + 42#32)).1 + 42#32 := rfl

theorem t2_snd : k0_pay23 K x y j = (round 13#32 19#32 (inject K 0#32 2#32 (roundsB (y j, x j + K + 1#32)))).2 := rfl
theorem t2_sum : k0_pay24 K x y j = (round 13#32 19#32 (inject K 0#32 2#32 (roundsB (y j, x j + K + 1#32)))).1
    + (round 13#32 19#32 (inject K 0#32 2#32 (roundsB (y j, x j + K + 1#32)))).2 := rfl

theorem t3_sum : k0_pay34 x y 15#32 j = (round 16#32 16#32 (round 29#32 3#32 (round 17#32 15#32 (inject 0#32 42#32 3#32
    (round 6#32 26#32 (round 26#32 6#32 (y j, y j ^^^ rot 15#32 17#32 (x j)))))))).1 := rfl
theorem t3_rot : k0_pay35 x y 15#32 j = rot 16#32 16#32 (round 29#32 3#32 (round 17#32 15#32 (inject 0#32 42#32 3#32
    (round 6#32 26#32 (round 26#32 6#32 (y j, y j ^^^ rot 15#32 17#32 (x j))))))).2 := rfl

theorem t4_fst : k0_pay46 K x y j
    = (roundsA (inject 42#32 K 4#32 (round 24#32 8#32 (x j, x j ^^^ y j)))).1 + K := rfl
theorem t4_snd : k0_pay47 K x y j
    = (roundsA (inject 42#32 K 4#32 (round 24#32 8#32 (x j, x j ^^^ y j)))).2 + 0#32 := rfl

/-- The mantissas of the tail of the row of trip `t`, as the body computes them: part by part over the counters `x`. -/
def tailWords (K : BitVec 32) (v0 : BitVec 32) (x : IVec S256x1 32) (t : Fin k0_t1_loop.trips) : IVec S256x1 32 × IVec S256x1 32 :=
  let a := k0_pay11 v0 x 0#32 1#32 t
  let b := k0_pay12 v0 x 0#32 1#32 t
  let c := k0_pay23 K a b
  let d := k0_pay24 K a b
  let e := k0_pay34 c d 15#32
  let f := k0_pay35 c d 15#32
  (k0_pay46 K e f, k0_pay47 K e f)

/-- They are the mantissas of the entries' words. -/
theorem tail_mant : ((tailWords ks2 v0 x t).1 j ^^^ ((tailWords ks2 v0 x t).2 j + 5#32)) >>> 9#32
    = mant (tailFlat v0 x t j) := by
  unfold tailWords mant bits threefry
  dsimp only
  rw [t4_fst, t4_snd, t3_sum, t3_rot, t2_snd, t2_sum, t1_snd, t1_fst, fold_inject, fold_second, foldA, fold_third, foldB]
  rfl

end tail

/-! ## The scratch block -/

section block
variable (i : grid0.Coords) (K : BitVec 32) (x y : IVec S8x1024 32) (j : S8x1024.Idx)

/-- The flat number of an entry of the block. -/
def blockFlat : BitVec 32 :=
  (BitVec.ofNat 32 (i 0).val * 8#32 + BitVec.ofNat 32 (j 0).val) * 1024#32 + BitVec.ofNat 32 (j 1).val

theorem b0 : k0_pay48 i j = blockFlat i j + 42#32 := by
  show ((_ + iota .tc S8x1024 32 [0] iota_S8x1024_d0_w32 j) * _ + iota .tc S8x1024 32 [1] iota_S8x1024_d1_w32 j) + _ = _
  rw [iota_single_apply, iota_single_apply]
  rfl
theorem b1_snd : k0_pay56 i j = (roundsA (0#32, k0_pay48 i j)).2 := rfl
theorem b1_fst : k0_pay57 i j = (roundsA (0#32, k0_pay48 i j)).1 + 42#32 := rfl

theorem b2_snd : k0_pay68 K x y j = (round 13#32 19#32 (inject K 0#32 2#32 (roundsB (y j, x j + K + 1#32)))).2 := rfl
theorem b2_sum : k0_pay69 K x y j = (round 13#32 19#32 (inject K 0#32 2#32 (roundsB (y j, x j + K + 1#32)))).1
    + (round 13#32 19#32 (inject K 0#32 2#32 (roundsB (y j, x j + K + 1#32)))).2 := rfl

theorem b3_sum : k0_pay79 x y 15#32 j = (round 16#32 16#32 (round 29#32 3#32 (round 17#32 15#32 (inject 0#32 42#32 3#32
    (round 6#32 26#32 (round 26#32 6#32 (y j, y j ^^^ rot 15#32 17#32 (x j)))))))).1 := rfl
theorem b3_rot : k0_pay80 x y 15#32 j = rot 16#32 16#32 (round 29#32 3#32 (round 17#32 15#32 (inject 0#32 42#32 3#32
    (round 6#32 26#32 (round 26#32 6#32 (y j, y j ^^^ rot 15#32 17#32 (x j))))))).2 := rfl

theorem b4_fst : k0_pay91 K x y j
    = (roundsA (inject 42#32 K 4#32 (round 24#32 8#32 (x j, x j ^^^ y j)))).1 + K := rfl
theorem b4_snd : k0_pay92 K x y j
    = (roundsA (inject 42#32 K 4#32 (round 24#32 8#32 (x j, x j ^^^ y j)))).2 + 0#32 := rfl

/-- The mantissas of the block, as the body computes them part by part. -/
def blockWords (K : BitVec 32) (i : grid0.Coords) : IVec S8x1024 32 × IVec S8x1024 32 :=
  let a := k0_pay56 i
  let b := k0_pay57 i
  let c := k0_pay68 K a b
  let d := k0_pay69 K a b
  let e := k0_pay79 c d 15#32
  let f := k0_pay80 c d 15#32
  (k0_pay91 K e f, k0_pay92 K e f)

/-- They are the mantissas of the entries' words. -/
theorem block_mant : k0_pay1 (blockWords ks2 i).1 (blockWords ks2 i).2 5#32 j = mant (blockFlat i j) := by
  unfold k0_pay1
  rw [shapeCast_self]
  show ((blockWords ks2 i).1 j ^^^ ((blockWords ks2 i).2 j + 5#32)) >>> 9#32 = _
  unfold blockWords mant bits threefry
  dsimp only
  rw [b4_fst, b4_snd, b3_sum, b3_rot, b2_snd, b2_sum, b1_snd, b1_fst, b0, fold_inject, fold_second, foldA, fold_third,
    foldB]
  rfl

end block

end Cert.KernelIdeal.Words
end
-- ==== Proof.KernelRow.lean ====
/- What one trip of the kernel's row loop computes: the tail's ranks in the row, and the row of the mask from them. -/
module

public import proofs.«01_k».proof.Proof.KernelWords
public import Idealize.ShloMosaic.Lib.WordSum
public import Idealize.ShloMosaic.PureOps.Ideal.Laws
public import Idealize.ShloMosaic.Lib.IdealHost

@[expose] public section

set_option maxRecDepth 8192

noncomputable section

namespace Cert.KernelIdeal.Row

open Idealize.ShloMosaic Cert.KernelIdeal Cert.KernelIdeal.Gen

/-- The index with coordinates `i` and `j`. -/
def at2 {n m : Nat} (i : Fin n) (j : Fin m) : (⟨2, ![n, m]⟩ : Shape).Idx
  | ⟨0, _⟩ => i
  | ⟨1, _⟩ => j

/-- Position `k` of the row. -/
def rowAt (k : Fin 1024) : S1x1024.Idx := at2 0 k
/-- Tail entry `j`. -/
def colAt (j : Fin 256) : S256x1.Idx := at2 j 0
/-- Tail entry `j` against position `k`. -/
def wide (j : Fin 256) (k : Fin 1024) : S256x1024.Idx := at2 j k

/-- Tail entry `j` in a plain vector. -/
def vecAt (j : Fin 256) : S256.Idx
  | ⟨0, _⟩ => j
/-- Position `k` in a plain vector. -/
def laneAt (k : Fin 1024) : S1024.Idx
  | ⟨0, _⟩ => k

section
variable (row : IVec S1x1024 32) (tail : IVec S256x1 32)

/-- Which entries of the row come before tail entry `768 + j`: a lesser mantissa, or an equal one further left. -/
def Before (j : Fin 256) (k : Fin 1024) : Prop :=
  (row (rowAt k)).slt (tail (colAt j)) = true
    ∨ row (rowAt k) = tail (colAt j) ∧ (BitVec.ofNat 32 k.val).slt (768#32 + BitVec.ofNat 32 j.val) = true

instance (j : Fin 256) (k : Fin 1024) : Decidable (Before row tail j k) := by unfold Before; infer_instance

/-- The comparison's bits. -/
def bitVec : IVec S256x1024 1 :=
  ori (cmpi .slt (broadcastTo S256x1024 row broadcasts_S1x1024_S256x1024) (broadcastTo S256x1024 tail broadcasts_S256x1_S256x1024))
    (andi (cmpi .eq (broadcastTo S256x1024 row broadcasts_S1x1024_S256x1024) (broadcastTo S256x1024 tail broadcasts_S256x1_S256x1024))
      (cmpi .slt (iota .tc S256x1024 32 [1] iota_S256x1024_d1_w32)
        (broadcastTo S256x1024 (addi (broadcast S256x1 768#32) (iota .tc S256x1 32 [0] iota_S256x1_d0_w32))
          broadcasts_S256x1_S256x1024)))

/-- The rank words. -/
def rankVec : IVec S256 32 :=
  multiReductionI .add [1] S256 (extui 32 (bitVec row tail) natLt_1_32) 0#32 reduces_S256x1024_S256 rfl

/-- Which positions are some tail entry's rank. -/
def hitVec : IVec S256x1024 1 :=
  cmpi .eq (broadcastTo S256x1024 (shapeCast S256x1 (rankVec row tail) shapeCasts_S256_S256x1) broadcasts_S256x1_S256x1024)
    (iota .tc S256x1024 32 [1] iota_S256x1024_d1_w32)

/-- The hits gathered over the tail, as the body's maximum of zeros and ones against zero. -/
def anyVec {F : FTy → Type} [FloatOps F] : IVec S1024 1 :=
  cmpf .ogt (multiReduction (F := F) .maximumf [0] S1024
    (select (hitVec row tail) (broadcast S256x1024 (Scalar.ofBits .f32 0x3F800000#32)) (broadcast S256x1024 (Scalar.ofBits .f32 0x00000000#32)))
    0xFF800000#32 reduces_S256x1024_S1024 (.inl rfl) rfl) (broadcast S1024 (Scalar.ofBits .f32 0x00000000#32))

end

/-- The tail's mantissas from the two final words. -/
def tailOf (a b : IVec S256x1 32) (n : BitVec 32) : IVec S256x1 32 := fun j => (a j ^^^ (b j + n)) >>> 9#32

theorem pay2_eq {F : FTy → Type} [FloatOps F] (row : IVec S1x1024 32) (a b : IVec S256x1 32) :
    k0_pay2 (F := F) row a b 5#32 = select (shapeCast S1x1024 (anyVec (F := F) row (tailOf a b 5#32)) shapeCasts_S1024_S1x1024)
      (broadcast S1x1024 0#32) (broadcast S1x1024 1#32) := rfl

variable (row : IVec S1x1024 32) (tail : IVec S256x1 32)

theorem row_read (j : Fin 256) (k : Fin 1024) :
    broadcastTo S256x1024 row broadcasts_S1x1024_S256x1024 (wide j k) = row (rowAt k) :=
  congrArg row (Shape.idx_ext₂ rfl rfl)

theorem column_read {α : Type} (x : S256x1.Idx → α) (j : Fin 256) (k : Fin 1024) :
    broadcastTo S256x1024 x broadcasts_S256x1_S256x1024 (wide j k) = x (colAt j) :=
  congrArg x (Shape.idx_ext₂ rfl rfl)

theorem bits_or_and (p q : Bool) (a b : BitVec 32) (P : Prop) [Decidable P] (h : P ↔ p = true ∨ a = b ∧ q = true) :
    BitVec.ofBool p ||| (BitVec.ofBool (a == b) &&& BitVec.ofBool q) = BitVec.ofBool (decide P) := by
  by_cases e : a = b <;> cases p <;> cases q <;> simp [e, h, beq_eq_decide]

theorem bit_apply (j : Fin 256) (k : Fin 1024) :
    bitVec row tail (wide j k) = BitVec.ofBool (decide (Before row tail j k)) := by
  show (BitVec.ofBool (BitVec.slt _ _)) ||| ((BitVec.ofBool (_ == _)) &&& (BitVec.ofBool (BitVec.slt
    (iota .tc S256x1024 32 [1] iota_S256x1024_d1_w32 (wide j k)) (broadcastTo S256x1024 _ broadcasts_S256x1_S256x1024 (wide j k))))) = _
  rw [row_read, column_read, column_read, iota_single_apply]
  show _ ||| (_ &&& (BitVec.ofBool (BitVec.slt (BitVec.ofNat 32 k.val) (768#32 + iota .tc S256x1 32 [0] iota_S256x1_d0_w32 (colAt j))))) = _
  rw [iota_single_apply]
  show _ ||| (_ &&& (BitVec.ofBool (BitVec.slt (BitVec.ofNat 32 k.val) (768#32 + BitVec.ofNat 32 j.val)))) = _
  exact bits_or_and _ _ _ _ _ Iff.rfl

theorem ofBool_word (P : Prop) [Decidable P] : ((BitVec.ofBool (decide P)).setWidth 32).toNat = if P then 1 else 0 := by
  by_cases h : P <;> simp [h]

/-- The rank of tail entry `768 + j`: how many entries of the row come before it. -/
def rank (j : Fin 256) : Nat := (Finset.univ.filter fun k : Fin 1024 => Before row tail j k).card

theorem rank_le (j : Fin 256) : rank row tail j ≤ 1024 :=
  (Finset.card_le_univ _).trans (by simp)

theorem lift_lane (j : Fin 256) (k : Fin 1024) : reduces_S256x1024_S256.lift (vecAt j) k = wide j k :=
  Shape.idx_ext₂ rfl rfl

theorem lift_column (k : Fin 1024) (j : Fin 256) : reduces_S256x1024_S1024.lift (laneAt k) j = wide j k :=
  Shape.idx_ext₂ rfl rfl

theorem rank_sum (j : Fin 256) : ∑ i ∈ Finset.univ.filter (fun i => reduces_S256x1024_S256.drop i = vecAt j),
    (extui 32 (bitVec row tail) natLt_1_32 i).toNat = rank row tail j := by
  rw [Shape.Reduces.sum_filter_drop_single reduces_S256x1024_S256
    (fun i => (extui 32 (bitVec row tail) natLt_1_32 i).toNat) (vecAt j)]
  unfold rank
  rw [Finset.card_filter]
  refine Finset.sum_congr rfl fun (k : Fin 1024) _ => ?_
  have e := congrArg (fun i => ((bitVec row tail i).setWidth 32).toNat) (lift_lane j k)
  exact e.trans ((congrArg (fun z : BitVec 1 => (z.setWidth 32).toNat) (bit_apply row tail j k)).trans
    (ofBool_word (Before row tail j (k : Fin 1024))))

theorem rank_word (j : Fin 256) : rankVec row tail (vecAt j) = BitVec.ofNat 32 (rank row tail j) := by
  have key := rank_sum row tail j
  have hl := rank_le row tail j
  apply BitVec.eq_of_toNat_eq
  unfold rankVec
  rw [WordSum.toNat_multiReductionI_add _ _ rfl (vecAt j) (by rw [key]; omega), key, BitVec.toNat_ofNat]
  omega

/-- A vector of 256 viewed as a column. -/
theorem column_cast {α : Type} (x : S256.Idx → α) (j : Fin 256) :
    shapeCast S256x1 x shapeCasts_S256_S256x1 (colAt j) = x (vecAt j) := by
  unfold shapeCast
  refine congrArg x ?_
  apply Shape.reshapeEquiv_eq_of_rowMajor
  refine (Shape.rowMajor_val_one (d := ![256]) _).trans (Eq.trans ?_ (Shape.rowMajor_val_two (d := ![256, 1]) _).symm)
  show j.val = j.val * 1 + 0
  omega

theorem word_eq (n k : Nat) (hn : n ≤ 1024) (hk : k < 1024) :
    (BitVec.ofNat 32 n == BitVec.ofNat 32 k) = decide (n = k) := by
  rw [beq_eq_decide, decide_eq_decide]
  refine ⟨fun h => ?_, fun h => by rw [h]⟩
  have := congrArg BitVec.toNat h
  rw [BitVec.toNat_ofNat, BitVec.toNat_ofNat] at this
  omega

theorem eq_at {s : Shape} (x y : IVec s 32) (i : s.Idx) : cmpi .eq x y i = BitVec.ofBool (x i == y i) := rfl

theorem ogt_at {s : Shape} (x y : FVec Ideal s .f32) (i : s.Idx) : cmpf .ogt x y i = BitVec.ofBool (decide (y i < x i)) := rfl

theorem hit_apply (j : Fin 256) (k : Fin 1024) :
    hitVec row tail (wide j k) = BitVec.ofBool (decide (rank row tail j = k.val)) := by
  unfold hitVec
  rw [eq_at, column_read, iota_single_apply, column_cast, rank_word]
  exact congrArg _ (word_eq _ _ (rank_le _ _ _) k.isLt)

theorem one_f32 : (0 : EReal) < Ideal.ofBits .f32 0x3F800000#32 := by
  rw [Ideal.ofBits_one_f32]; exact zero_lt_one

theorem neg_inf : Ideal.ofBits .f32 0xFF800000#32 = ⊥ := by
  simp [Ideal.ofBits, Ideal.ieee]

/-- At the ideal values a maximum over the tail is positive when some term is. -/
theorem max_pos (src : FVec Ideal S256x1024 .f32) (hφ : FKind.Formats .f32)
    (hacc : (0xFF800000#32 : BitVec 32) = FKind.maximumf.neutral .f32 hφ) (k : Fin 1024) :
    (0 : EReal) < multiReduction (F := Ideal) (φ := .f32) .maximumf [0] S1024 src 0xFF800000#32 reduces_S256x1024_S1024 hφ hacc (laneAt k)
      ↔ ∃ j : Fin 256, (0 : EReal) < src (wide j k) := by
  rw [Ideal.multiReduction_maximumf_single, Finset.lt_fold_max]
  refine Iff.trans (or_iff_right ?_) ?_
  · show ¬ (0 : EReal) < Ideal.ofBits .f32 0xFF800000#32
    rw [neg_inf]; exact not_lt_bot
  refine exists_congr fun j => ?_
  rw [and_iff_right (Finset.mem_univ _)]
  exact iff_of_eq (congrArg (fun x => (0 : EReal) < src x) (lift_column k j))

/-- At the ideal values the gathered hit at position `k` says whether `k` is some tail entry's rank. -/
theorem any_apply (k : Fin 1024) :
    anyVec (F := Ideal) row tail (laneAt k) = BitVec.ofBool (decide (∃ j : Fin 256, rank row tail j = k.val)) := by
  unfold anyVec
  rw [ogt_at]
  refine congrArg BitVec.ofBool (decide_eq_decide.2 ?_)
  rw [show (broadcast S1024 (Scalar.ofBits (F := Ideal) .f32 0x00000000#32) (laneAt k)) = (0 : EReal) from Ideal.ofBits_zero_f32]
  refine (max_pos _ _ _ k).trans (exists_congr fun j => ?_)
  show ((0 : EReal) < if hitVec row tail (wide j k) = 1 then Ideal.ofBits .f32 0x3F800000#32
    else Ideal.ofBits .f32 0x00000000#32) ↔ (rank row tail j = k.val)
  rw [hit_apply, Ideal.ofBits_zero_f32]
  by_cases h : rank row tail j = k.val
  · simp [h, one_f32]
  · simp [h]

/-- The row of the mask one trip stores, at the ideal values: zero where the position is a tail entry's rank. -/
theorem stored (a b : IVec S256x1 32) (k : Fin 1024) :
    k0_pay2 (F := Ideal) row a b 5#32 (rowAt k)
      = if ∃ j : Fin 256, rank row (tailOf a b 5#32) j = k.val then 0#32 else 1#32 := by
  have e : shapeCast S1x1024 (anyVec (F := Ideal) row (tailOf a b 5#32)) shapeCasts_S1024_S1x1024 (rowAt k)
      = anyVec (F := Ideal) row (tailOf a b 5#32) (laneAt k) :=
    (shapeCast_addUnit_apply ![1024] _ _ (rowAt k)).trans (congrArg _ (funext fun a => match a with | ⟨0, _⟩ => rfl))
  rw [any_apply] at e
  rw [pay2_eq]
  show (if shapeCast S1x1024 (anyVec (F := Ideal) row (tailOf a b 5#32)) shapeCasts_S1024_S1x1024 (rowAt k) = 1 then 0#32 else 1#32) = _
  rw [e]
  by_cases h : ∃ j : Fin 256, rank row (tailOf a b 5#32) j = k.val
  · rw [if_pos h, decide_eq_true h]; rfl
  · rw [if_neg h, decide_eq_false h]; rfl

end Cert.KernelIdeal.Row
end
-- ==== Proof.Mask.lean ====
/- The mask both programs compute, entry by entry, in plain numbers: a position of a row is masked out when it is the
   rank, in the row's order, of one of the row's last 256 entries. The order is by mantissa, then from left to right. -/
module

public import proofs.«01_k».proof.Proof.Spec
public import Mathlib.Data.Fintype.Card
public import Mathlib.Data.Finset.Card

@[expose] public section

noncomputable section

namespace Cert.Mask

/-- The mantissa of entry `k` of row `r`, as a number. -/
def mantissa (r k : Nat) : Nat := (Spec.mant (BitVec.ofNat 32 (r * 1024 + k))).toNat

theorem mant_lt (c : BitVec 32) : (Spec.mant c).toNat < 2 ^ 23 := by
  unfold Spec.mant
  have h := (Spec.bits c).isLt
  rw [BitVec.ushiftRight_eq', BitVec.toNat_ushiftRight, Nat.shiftRight_eq_div_pow]
  show (Spec.bits c).toNat / 2 ^ 9 < 2 ^ 23
  omega

theorem mantissa_lt (r k : Nat) : mantissa r k < 2 ^ 23 := mant_lt _

/-- Entry `k` of row `r` comes before entry `j`. -/
def Before (r : Nat) (k j : Fin 1024) : Prop :=
  mantissa r k < mantissa r j ∨ mantissa r k = mantissa r j ∧ k < j

instance (r : Nat) (k j : Fin 1024) : Decidable (Before r k j) := by unfold Before; infer_instance

/-- How many entries of row `r` come before entry `j`. -/
def rank (r : Nat) (j : Fin 1024) : Nat := (Finset.univ.filter fun k : Fin 1024 => Before r k j).card

/-- Entry `768 + j` of a row. -/
def tailAt (j : Fin 256) : Fin 1024 := ⟨768 + j.val, by omega⟩

/-- Position `k` of row `r` is the rank of one of the last 256 entries. -/
def Out (r : Nat) (k : Fin 1024) : Prop := ∃ j : Fin 256, rank r (tailAt j) = k.val

instance (r : Nat) (k : Fin 1024) : Decidable (Out r k) := by unfold Out; infer_instance

/-- The mask as a word: zero where the position is such a rank. -/
def word (r : Nat) (k : Fin 1024) : BitVec 32 := if Out r k then 0#32 else 1#32

end Cert.Mask
end
-- ==== Proof.KernelBlock.lean ====
/- What the kernel leaves in one block of its output: eight rows of the mask, each as `Mask.word` states it. -/
module

public import proofs.«01_k».proof.Proof.KernelRun
public import proofs.«01_k».proof.Proof.KernelRow
public import proofs.«01_k».proof.Proof.Mask
public import Idealize.ShloMosaic.Lib.VecWindow

@[expose] public section

set_option maxRecDepth 8192

noncomputable section

namespace Cert.KernelIdeal.Block

open Idealize.ShloMosaic Idealize.ShloMosaic.TcCoe Cert.KernelIdeal Cert.KernelIdeal.Gen

/-- The index of row `r`, lane `k` of a block. -/
def blockAt (r : Fin 8) (k : Fin 1024) : S8x1024.Idx := Row.at2 r k

/-- The block's words as the run names them. -/
theorem words_block (i : grid0.Coords) :
    k0_pay1 (kernelRun0_A.sl.r_4 i) (kernelRun0_A.sl.r_5 i) 5#32
      = k0_pay1 (Words.blockWords Spec.ks2 i).1 (Words.blockWords Spec.ks2 i).2 5#32 := rfl

/-- The tail's words as a trip names them. -/
theorem words_tail (v0 : BitVec 32) (x : IVec S256x1 32) (t : Fin k0_t1_loop.trips) :
    (trip_k0_t1.sl.v373 v0 x t, trip_k0_t1.sl.v375 v0 x t) = Words.tailWords Spec.ks2 v0 x t := rfl

theorem flat_block (i : grid0.Coords) (r : Fin 8) (k : Fin 1024) :
    Words.blockFlat i (blockAt r k) = BitVec.ofNat 32 (((i 0).val * 8 + r.val) * 1024 + k.val) := by
  rw [BitVec.ofNat_add, BitVec.ofNat_mul, BitVec.ofNat_add, BitVec.ofNat_mul]
  rfl

theorem trip_word : ∀ t : Fin k0_t1_loop.trips, Scf.iv 0#32 1#32 t.val = BitVec.ofNat 32 t.val := by
  decide +kernel

theorem flat_tail (i : grid0.Coords) (t : Fin k0_t1_loop.trips) (j : Fin 256) :
    Words.tailFlat (kernelRun0_A.sl.v0 i) (iota .tc S256x1 32 [0] iota_S256x1_d0_w32) t (Row.colAt j)
      = BitVec.ofNat 32 (((i 0).val * 8 + t.val) * 1024 + (768 + j.val)) := by
  unfold Words.tailFlat
  rw [iota_single_apply, trip_word, ← Nat.add_assoc, BitVec.ofNat_add, BitVec.ofNat_add, BitVec.ofNat_mul, BitVec.ofNat_add,
    BitVec.ofNat_mul]
  rfl

theorem trips_le (t : Fin k0_t1_loop.trips) : t.val < 8 := Nat.lt_of_lt_of_le t.isLt k0_t1_abs.2.1

/-- The row number of trip `t` at the grid point `i`. -/
def rowNo (i : grid0.Coords) (t : Nat) : Nat := (i 0).val * 8 + t

section
variable (i : grid0.Coords) (t : Fin k0_t1_loop.trips)

/-- The row a trip reads is the scratch block's. -/
theorem row_read (F : FTy → Type) [FloatOps F] (arg2 : Memref sig .tc .vmem S8x1024 .i32) (k : Fin 1024) :
    trip_k0_t1.sl.r (F := F) arg2 (arg2.view.writes (Elt F) arg2.view.junk (kernelRun0_A.sl.HS0_1 i)) t (Row.rowAt k)
      = Spec.mant (BitVec.ofNat 32 (rowNo i t.val * 1024 + k.val)) := by
  unfold trip_k0_t1.sl.r kernelRun0_A.sl.HS0_1
  have e : (Rect.unit (s := S8x1024) (k0_off1 t) S1x1024.size (k0_off1_inb t)).toLoadRect.idx (Row.rowAt k)
      = blockAt ⟨t.val, trips_le t⟩ k := by
    refine Shape.idx_ext₂ ?_ ?_
    · show k0_off1 t 0 + 1 * 0 = t.val
      rw [k0_off1_eq]; rfl
    · show k0_off1 t 1 + 1 * k.val = k.val
      rw [k0_off1_eq]; show 0 + 1 * k.val = k.val; omega
  show View.read (Elt F) arg2.view _ ((Rect.unit (s := S8x1024) (k0_off1 t) S1x1024.size (k0_off1_inb t)).toLoadRect.idx (Row.rowAt k)) = _
  rw [e]
  refine (congrFun (View.read_writes_full arg2.view _ inb_S8x1024_S8x1024_0_0 _ []) _).trans ?_
  rw [words_block, Words.block_mant, flat_block]
  rfl

/-- The tail a trip draws. -/
theorem tail_read (j : Fin 256) :
    Row.tailOf (trip_k0_t1.sl.v373 (kernelRun0_A.sl.v0 i) (iota .tc S256x1 32 [0] iota_S256x1_d0_w32) t)
      (trip_k0_t1.sl.v375 (kernelRun0_A.sl.v0 i) (iota .tc S256x1 32 [0] iota_S256x1_d0_w32) t) 5#32 (Row.colAt j)
      = Spec.mant (BitVec.ofNat 32 (rowNo i t.val * 1024 + (Mask.tailAt j).val)) := by
  have h := Words.tail_mant (kernelRun0_A.sl.v0 i) (iota .tc S256x1 32 [0] iota_S256x1_d0_w32) t (Row.colAt j)
  rw [flat_tail] at h
  exact h

end

theorem slt_small (a b : BitVec 32) (ha : a.toNat < 2 ^ 23) (hb : b.toNat < 2 ^ 23) :
    a.slt b = true ↔ a.toNat < b.toNat := by
  rw [BitVec.slt_iff_toInt_lt, BitVec.toInt_eq_toNat_of_lt (by omega), BitVec.toInt_eq_toNat_of_lt (by omega)]
  omega

/-- The order of a trip is the mask's. -/
theorem before_iff (row : IVec S1x1024 32) (tail : IVec S256x1 32) (r : Nat)
    (hrow : ∀ k : Fin 1024, row (Row.rowAt k) = Spec.mant (BitVec.ofNat 32 (r * 1024 + k.val)))
    (htail : ∀ j : Fin 256, tail (Row.colAt j) = Spec.mant (BitVec.ofNat 32 (r * 1024 + (Mask.tailAt j).val)))
    (j : Fin 256) (k : Fin 1024) : Row.Before row tail j k ↔ Mask.Before r k (Mask.tailAt j) := by
  unfold Row.Before Mask.Before Mask.mantissa
  rw [hrow, htail, slt_small _ _ (Mask.mant_lt _) (Mask.mant_lt _)]
  refine or_congr Iff.rfl (and_congr BitVec.toNat_inj.symm ?_)
  rw [show (768#32 + BitVec.ofNat 32 j.val) = BitVec.ofNat 32 (768 + j.val) from (BitVec.ofNat_add 768 j.val).symm]
  have hk := k.isLt
  have hj := j.isLt
  have e1 : (BitVec.ofNat 32 k.val).toNat = k.val := by rw [BitVec.toNat_ofNat]; omega
  have e2 : (BitVec.ofNat 32 (768 + j.val)).toNat = 768 + j.val := by rw [BitVec.toNat_ofNat]; omega
  rw [slt_small _ _ (by rw [e1]; omega) (by rw [e2]; omega), e1, e2]
  exact Iff.rfl

theorem rank_eq (row : IVec S1x1024 32) (tail : IVec S256x1 32) (r : Nat)
    (hrow : ∀ k : Fin 1024, row (Row.rowAt k) = Spec.mant (BitVec.ofNat 32 (r * 1024 + k.val)))
    (htail : ∀ j : Fin 256, tail (Row.colAt j) = Spec.mant (BitVec.ofNat 32 (r * 1024 + (Mask.tailAt j).val)))
    (j : Fin 256) : Row.rank row tail j = Mask.rank r (Mask.tailAt j) :=
  congrArg Finset.card (Finset.filter_congr fun k _ => before_iff row tail r hrow htail j k)

/-- The whole block, as the mask. -/
def value (i : grid0.Coords) : S8x1024.Idx → BitVec 32 := fun y => Mask.word (rowNo i (y 0).val) (y 1)

section
variable (c : Dev nD) (i : grid0.Coords) (arg1 : Memref sig .tc .vmem S8x1024 .i32) (harg1 : arg1.IsWhole)
  (arg2 : Memref sig .tc .vmem S8x1024 .i32) (harg2 : arg2.IsWhole)

/-- The contents of the scratch block when the loop starts. -/
abbrev scratch : BufTy.Contents (Elt Ideal) arg2.view.ty := arg2.view.writes (Elt Ideal) arg2.view.junk (kernelRun0_A.sl.HS0_1 i)

/-- Where a trip's piece puts its entries. -/
theorem row_place (t : Fin k0_t1_loop.trips) (k : Fin 1024) :
    (Rect.unit (s := S8x1024) (k0_off1 t) S1x1024.size (k0_off1_inb t)).emb (Row.rowAt k) = blockAt ⟨t.val, trips_le t⟩ k := by
  refine Shape.idx_ext₂ ?_ ?_
  · show k0_off1 t 0 + 1 * 0 = t.val
    rw [k0_off1_eq]; rfl
  · show k0_off1 t 1 + 1 * k.val = k.val
    rw [k0_off1_eq]; show 0 + 1 * k.val = k.val; omega

/-- The mask's word, by any statement of its condition. -/
theorem word_of {P : Prop} [Decidable P] (r : Nat) (k : Fin 1024) (h : P ↔ Mask.Out r k) :
    (if P then 0#32 else 1#32) = Mask.word r k := by
  unfold Mask.word
  by_cases hP : P
  · rw [if_pos hP, if_pos (h.1 hP)]
  · rw [if_neg hP, if_neg fun o => hP (h.2 o)]

/-- What holds of one stored row holds of the list of that piece alone. -/
theorem of_row (off : Fin 2 → Nat) (inb : ∀ a, off a + S1x1024.size a ≤ S8x1024.size a) (f : S1x1024.Idx → BitVec 32)
    (v : S8x1024.Idx → BitVec 32) (h : ∀ x : S1x1024.Idx, f x = v ((Rect.unit (s := S8x1024) off S1x1024.size inb).emb x)) :
    ∀ p ∈ [(⟨Rect.unit (s := S8x1024) off S1x1024.size inb, f⟩ : View.Piece (Elt Ideal) S8x1024 .i32)],
      ∀ x : p.1.shape.Idx, p.2 x = v (p.1.emb x) := by
  intro p hp
  rw [List.mem_singleton.1 hp]
  exact h

/-- What a trip stores, entry by entry. -/
theorem trip_value (t : Fin k0_t1_loop.trips) (k : Fin 1024) :
    k0_pay2 (F := Ideal) (trip_k0_t1.sl.r arg2 (scratch i arg2) t)
      (trip_k0_t1.sl.v373 (kernelRun0_A.sl.v0 i) (iota .tc S256x1 32 [0] iota_S256x1_d0_w32) t)
      (trip_k0_t1.sl.v375 (kernelRun0_A.sl.v0 i) (iota .tc S256x1 32 [0] iota_S256x1_d0_w32) t) 5#32 (Row.rowAt k)
      = Mask.word (rowNo i t.val) k := by
  rw [Row.stored]
  refine word_of _ _ (exists_congr fun j => ?_)
  rw [rank_eq _ _ (rowNo i t.val) (row_read i t Ideal arg2) (tail_read i t)]

/-- The same at any index of the row. -/
theorem trip_row (t : Fin k0_t1_loop.trips) (x : S1x1024.Idx) :
    k0_pay2 (F := Ideal) (trip_k0_t1.sl.r arg2 (scratch i arg2) t)
      (trip_k0_t1.sl.v373 (kernelRun0_A.sl.v0 i) (iota .tc S256x1 32 [0] iota_S256x1_d0_w32) t)
      (trip_k0_t1.sl.v375 (kernelRun0_A.sl.v0 i) (iota .tc S256x1 32 [0] iota_S256x1_d0_w32) t) 5#32 x
      = value i ((Rect.unit (s := S8x1024) (k0_off1 t) S1x1024.size (k0_off1_inb t)).emb x) := by
  have e : x = Row.rowAt (x 1) := Shape.idx_ext₂ (by
    have := (x 0).isLt
    change (x 0).val < 1 at this
    show (x 0).val = 0
    omega) rfl
  rw [e]
  exact (trip_value i arg2 t (x 1)).trans (congrArg (value i) (row_place t (x 1))).symm

/-- What a trip stores, as one piece. -/
abbrev tripPiece (t : Fin k0_t1_loop.trips) : View.Piece (Elt Ideal) S8x1024 .i32 :=
  ⟨Rect.unit (s := S8x1024) (k0_off1 t) S1x1024.size (k0_off1_inb t), k0_pay2 (F := Ideal) (trip_k0_t1.sl.r arg2 (scratch i arg2) t)
      (trip_k0_t1.sl.v373 (kernelRun0_A.sl.v0 i) (iota .tc S256x1 32 [0] iota_S256x1_d0_w32) t)
      (trip_k0_t1.sl.v375 (kernelRun0_A.sl.v0 i) (iota .tc S256x1 32 [0] iota_S256x1_d0_w32) t) 5#32⟩

theorem trip_eq (t : Fin k0_t1_loop.trips) :
    tripL_k0_t1 (F := Ideal) Variants.none c none i arg1 harg1 arg2 harg2 (kernelRun0_A.sl.v0 i)
        (iota .tc S256x1 32 [0] iota_S256x1_d0_w32) (scratch i arg2) t = [tripPiece i arg2 t] := by
  unfold tripL_k0_t1 trip_k0_t1
  dsimp only

/-- The pieces of one trip hold the mask's row. -/
theorem trip_pieces (t : Fin k0_t1_loop.trips) :
    ∀ p ∈ tripL_k0_t1 (F := Ideal) Variants.none c none i arg1 harg1 arg2 harg2 (kernelRun0_A.sl.v0 i)
        (iota .tc S256x1 32 [0] iota_S256x1_d0_w32) (scratch i arg2) t,
      ∀ x : p.1.shape.Idx, p.2 x = value i (p.1.emb x) := by
  rw [trip_eq]
  exact of_row _ _ _ (value i) (trip_row i arg2 t)

/-- So do the pieces of the trips before `n`. -/
theorem loop_pieces (n : Nat) (hn : n ≤ k0_t1_loop.trips) :
    ∀ p ∈ pb_k0_t1 (F := Ideal) Variants.none c none i arg1 harg1 arg2 harg2 (kernelRun0_A.sl.v0 i)
        (iota .tc S256x1 32 [0] iota_S256x1_d0_w32) (scratch i arg2) n,
      ∀ x : p.1.shape.Idx, p.2 x = value i (p.1.emb x) := by
  induction n with
  | zero => intro p hp; exact absurd hp List.not_mem_nil
  | succ n ih =>
    intro p hp
    have e := pb_k0_t1_succ (F := Ideal) Variants.none c none i arg1 harg1 arg2 harg2 (kernelRun0_A.sl.v0 i)
        (iota .tc S256x1 32 [0] iota_S256x1_d0_w32) (scratch i arg2) ⟨n, hn⟩
    rw [e] at hp
    rcases List.mem_append.1 hp with h | h
    · exact trip_pieces c i arg1 harg1 arg2 harg2 ⟨n, hn⟩ p h
    · exact ih (Nat.le_of_succ_le hn) p h

/-- The run's pieces hold the mask. -/
theorem run_pieces : ∀ p ∈ (kernelRun0_A (F := Ideal) c i arg1 harg1 arg2 harg2).1,
    ∀ x : p.1.shape.Idx, p.2 x = value i (p.1.emb x) := by
  unfold kernelRun0_A
  exact loop_pieces c i arg1 harg1 arg2 harg2 k0_t1_loop.trips le_rfl

/-- What the run leaves in the output's staging buffer. -/
theorem out_value : Run.out0_A_0 (F := Ideal) c i arg1 harg1 arg2 harg2 = value i := by
  unfold Run.out0_A_0
  funext y
  exact View.read_writes_apply_of_pieces VO0_0 VO0_0.junk (value i) _ (run_pieces c i arg1 harg1 arg2 harg2) y
    (Run.cover0_A_0 c i arg1 harg1 arg2 harg2 y)

end

/-- The block every grid point leaves. -/
theorem outs_value (c : Dev nD) (t : Fin cfg0.N) : Run.outsAt0 (F := Ideal) c t = value (grid0.coords t) :=
  out_value c (grid0.coords t) _ _ _ _

end Cert.KernelIdeal.Block
-- ==== Proof.KernelValue.lean ====
/- The kernel's result: the whole array of mask words the grid points leave, and what the host lines after it make of it. -/
module

public import proofs.«01_k».proof.Proof.KernelBlock
public import Idealize.ShloMosaic.Lib.Pipeline.ValueKit.Geometry
public import Idealize.ShloMosaic.Lib.StableHlo.RunRead

@[expose] public section

set_option maxRecDepth 8192

noncomputable section

namespace Cert.KernelIdeal.Value

open Idealize.ShloMosaic Idealize.ShloMosaic.TcCoe Idealize.SL.Sem Cert.KernelIdeal Cert.KernelIdeal.Gen
open Idealize.ShloMosaic.StableHlo (after)

/-- The mask's words over the whole array. -/
def words : S1024x1024.Idx → BitVec 32 := fun y => Mask.word (y 0).val (y 1)

/-- A grid point's block is its eight rows, whole. -/
theorem index_eq : ∀ t : Fin cfg0.N, win0_0.index t = ![(grid0.coords t 0).val, 0] :=
  (by decide +kernel : ∀ t : Fin grid0.N, _)

variable (m : (ℓ : Loc nD τ sig) → Buf (Elt Ideal) ℓ) (ρ : Dev nD → PrngReg)

theorem placed (t : Fin cfg0.N) (y : S8x1024.Idx) :
    words ((win0_0.blk t).view.emb y) = Block.value (grid0.coords t) y := by
  have h0 : (((win0_0.blk t).view.emb y) 0).val = Block.rowNo (grid0.coords t) (y 0).val := by
    blk_simp [index_eq]
    rfl
  have h1 : ((win0_0.blk t).view.emb y) 1 = y 1 := by
    apply Fin.ext
    blk_simp [index_eq]
  unfold words Block.value
  rw [h0, h1]

/-- The array after the last grid point. -/
theorem array (c : Dev nD) : (Run.dats m 0 c).arrAt 0 cfg0.N = words := by
  refine (Run.dats m 0 c).arrAt_eq_of_covers 0 _ (by decide +kernel) fun t hf y => ?_
  blk_simp
  rw [Run.after0_0, Block.outs_value]
  exact (placed t y).symm

/-- The host lines after the kernel compare the words with zero. -/
theorem tail_read (V : Valuation τ sig (Elt Ideal)) :
    after hostOps1 V (Proc.devRef .tc main_v3)
      = (cmpi .ne (V (Proc.devRef .tc main_v0) : S1024x1024.Idx → BitVec 32) (fun _ => 0#32) : S1024x1024.Idx → BitVec 1) := by
  after_reads_simp
  rfl

/-- The kernel's run: its result compares the mask's words with zero, and its argument is unchanged. -/
theorem run : θ_run defs (onTc (τ := τ) (main (F := Ideal))) ⟨m, fun _ => 0, ρ⟩ fun r => ∀ c : Dev nD,
    r.2.mem ((c.tc : Thread nD τ).loc main_v3) = (cmpi .ne words (fun _ => 0#32) : S1024x1024.Idx → BitVec 1)
      ∧ r.2.mem ((c.tc : Thread nD τ).loc main_arg0) = m ((c.tc : Thread nD τ).loc main_arg0) := by
  refine (θ_run defs _ _).mono (fun r h c => ⟨?_, ?_⟩) (Run.run_main m ρ)
  · rw [h.rest_eq c main_v3 (Pipeline.mem_restRefs_of main_v3 (by decide) (by decide))]
    unfold Pipeline.afterTail₀
    refine (tail_read _).trans ?_
    refine congrArg (fun w => (cmpi .ne w (fun _ => 0#32) : S1024x1024.Idx → BitVec 1)) ?_
    exact (Pipeline.withArrays_arr spec0 (by decide) c (V0 m c) _ 0).trans (array m c)
  · exact (h.rest_eq c main_arg0 (Pipeline.mem_restRefs_of main_arg0 (by decide) (by decide))).trans (W_main_arg0 m _ c)

end Cert.KernelIdeal.Value
end
-- ==== Proof.RefWords.lean ====
/- The reference's random words, read off its line of operations window by window. -/
module

public import proofs.«01_k».proof.Proof.RefLine
public import proofs.«01_k».proof.Proof.Spec
public import Idealize.ShloMosaic.Lib.Pipeline.Value

@[expose] public section

noncomputable section

namespace Cert.ReferenceIdeal.Line

open Idealize.ShloMosaic Idealize.ShloMosaic.TcCoe Idealize.SL.Sem Cert.ReferenceIdeal
open Idealize.ShloMosaic.StableHlo (after launchContents)

variable {F : FTy → Type} [FloatOps F]

set_option maxRecDepth 20000

/-- `n` operations of the line from position `a`. -/
def win (a n : ℕ) : List (HloOp τ sig (Elt F)) := (ops.drop a).take n

/-- What the windows after the first rely on: the three key words and the two ends of the uniform interval. -/
structure Keys (V : Valuation τ sig (Elt F)) : Prop where
  k0 : V (Proc.devRef .tc main_call0_v5) = fun _ => 0#32
  k1 : V (Proc.devRef .tc main_call0_v7) = fun _ => 42#32
  k2 : V (Proc.devRef .tc main_call0_call0_v1) = fun _ => Spec.ks2
  lo : V (Proc.devRef .tc main_call0_v2) = fun _ => FloatOps.ofBits .f32 0x00000000#32
  hi : V (Proc.devRef .tc main_call0_v3) = fun _ => FloatOps.ofBits .f32 0x3F800000#32

/-- The flat number of an entry, as a word. -/
def flat (i : S1024x1024.Idx) : BitVec 32 := BitVec.ofNat 32 ((i 0).val * 1024 + (i 1).val)

/-- The entry's two counter words, from their 64-bit number. -/
theorem counter_lo (a b : ℕ) (ha : a < 1024) (hb : b < 1024) :
    (1024#64 * BitVec.ofNat 64 a + 1#64 * BitVec.ofNat 64 b).setWidth 32 = BitVec.ofNat 32 (a * 1024 + b) := by
  apply BitVec.eq_of_toNat_eq
  simp only [BitVec.toNat_setWidth, BitVec.toNat_add, BitVec.toNat_mul, BitVec.toNat_ofNat]
  omega

theorem counter_hi (a b : ℕ) (ha : a < 1024) (hb : b < 1024) :
    ((1024#64 * BitVec.ofNat 64 a + 1#64 * BitVec.ofNat 64 b) >>> 32#64).setWidth 32 = 0#32 := by
  apply BitVec.eq_of_toNat_eq
  simp only [BitVec.toNat_setWidth, BitVec.ushiftRight_eq', BitVec.toNat_ushiftRight, BitVec.toNat_add, BitVec.toNat_mul,
    BitVec.toNat_ofNat, Nat.shiftRight_eq_div_pow, show 32 % 2 ^ 64 = 32 from rfl]
  omega

/-- The seed's two halves. -/
theorem seed_hi (V : Valuation τ sig (Elt F)) :
    StableHlo.upto (win 0 34) V 9 (Proc.devRef .tc main_v2) = fun _ => 0#32 := by
  unfold win
  after_reads_simp
  rfl

theorem seed_lo (V : Valuation τ sig (Elt F)) :
    StableHlo.upto (win 0 34) V 9 (Proc.devRef .tc main_v5) = fun _ => 42#32 := by
  unfold win
  after_reads_simp
  exact funext fun _ => (by decide : (42#32 &&& 4294967295#32 : BitVec 32) = 42#32)

/-- The pair of words cut back into its two scalars. -/
theorem pair_fst (x y : S1.Idx → BitVec 32) (hx : x = fun _ => 0#32) (hc : Shape.Concatenates [S1, S1] S2 0) (hs : S2.Slices ![0] S1)
    (hr : S1.ShapeCasts S_) (i : S_.Idx) :
    shapeCast S_ (extractStridedSlice S1 ![0] (concatenate S2 0 [⟨S1, x⟩, ⟨S1, y⟩] hc) hs) hr i = 0#32 := by
  subst hx
  unfold shapeCast extractStridedSlice
  exact concatenate_pair_apply_left 0 _ y hc _ rfl (Shape.reshapeEquiv hr i) fun b => by
    obtain rfl : b = 0 := Subsingleton.elim b (0 : Fin 1)
    exact (Nat.zero_add _).symm

theorem pair_snd (x y : S1.Idx → BitVec 32) (hy : y = fun _ => 42#32) (hc : Shape.Concatenates [S1, S1] S2 0) (hs : S2.Slices ![1] S1)
    (hr : S1.ShapeCasts S_) (i : S_.Idx) :
    shapeCast S_ (extractStridedSlice S1 ![1] (concatenate S2 0 [⟨S1, x⟩, ⟨S1, y⟩] hc) hs) hr i = 42#32 := by
  subst hy
  unfold shapeCast extractStridedSlice
  exact concatenate_pair_apply_right 0 x _ hc _ rfl rfl (Shape.reshapeEquiv hr i)
    (fun b hb => absurd (Subsingleton.elim (α := Fin 1) _ _) hb) (Nat.add_comm _ _)

theorem key0_start (V : Valuation τ sig (Elt F)) :
    after (win 0 34) V (Proc.devRef .tc main_call0_v5) = fun _ => 0#32 := by
  after_reads_simp
  exact funext fun i => pair_fst _ _ (seed_hi V) Gen.concatenates_S1_S1_S2_d0 Gen.slices_S2_S1_0 Gen.shapeCasts_S1_S_ i

theorem key1_start (V : Valuation τ sig (Elt F)) :
    after (win 0 34) V (Proc.devRef .tc main_call0_v7) = fun _ => 42#32 := by
  after_reads_simp
  exact funext fun i => pair_snd _ _ (seed_lo V) Gen.concatenates_S1_S1_S2_d0 Gen.slices_S2_S1_1 Gen.shapeCasts_S1_S_ i

/-- The counter's two words. -/
theorem hi_start (V : Valuation τ sig (Elt F)) (i : S1024x1024.Idx) :
    after (win 0 34) V (Proc.devRef .tc main_call0_v18) i = 0#32 := by
  after_reads_simp
  exact counter_hi (i 0).val (i 1).val (i 0).isLt (i 1).isLt

theorem lo_start (V : Valuation τ sig (Elt F)) (i : S1024x1024.Idx) :
    after (win 0 34) V (Proc.devRef .tc main_call0_v17) i = flat i := by
  after_reads_simp
  exact counter_lo (i 0).val (i 1).val (i 0).isLt (i 1).isLt

theorem end0_start (V : Valuation τ sig (Elt F)) :
    after (win 0 34) V (Proc.devRef .tc main_call0_v2) = fun _ => FloatOps.ofBits .f32 0x00000000#32 := by
  after_reads_simp
  rfl

theorem end1_start (V : Valuation τ sig (Elt F)) :
    after (win 0 34) V (Proc.devRef .tc main_call0_v3) = fun _ => FloatOps.ofBits .f32 0x3F800000#32 := by
  after_reads_simp
  rfl

/-- The second window adds the keys' injection to the counter and makes the third key word. -/
theorem keys_second (V : Valuation τ sig (Elt F)) : Keys (after (win 34 7) (after (win 0 34) V)) := by
  have h0 := key0_start V
  have h1 := key1_start V
  have h2 := end0_start V
  have h3 := end1_start V
  generalize after (win 0 34) V = W at h0 h1 h2 h3 ⊢
  constructor
  · after_reads_simp
    exact h0
  · after_reads_simp
    exact h1
  · after_reads_simp
    rw [h0, h1]
    rfl
  · after_reads_simp
    exact h2
  · after_reads_simp
    exact h3

theorem start_fst (V : Valuation τ sig (Elt F)) (i : S1024x1024.Idx) :
    after (win 34 7) (after (win 0 34) V) (Proc.devRef .tc main_call0_call0_v3) i = 0#32 := by
  have h0 := key0_start V
  have h1 := hi_start V i
  generalize after (win 0 34) V = W at h0 h1 ⊢
  after_reads_simp
  rw [h0]
  exact congrArg (fun a : BitVec 32 => a + 0#32) h1

theorem start_snd (V : Valuation τ sig (Elt F)) (i : S1024x1024.Idx) :
    after (win 34 7) (after (win 0 34) V) (Proc.devRef .tc main_call0_call0_v5) i = flat i + 42#32 := by
  have h0 := key1_start V
  have h1 := lo_start V i
  generalize after (win 0 34) V = W at h0 h1 ⊢
  after_reads_simp
  rw [h0]
  exact congrArg (fun a : BitVec 32 => a + 42#32) h1

/-- A window that writes none of the five keeps them. -/
theorem keys_kept {l : List (HloOp τ sig (Elt F))} {V : Valuation τ sig (Elt F)} (hk : Keys V)
    (h0 : after l V (Proc.devRef .tc main_call0_v5) = V (Proc.devRef .tc main_call0_v5))
    (h1 : after l V (Proc.devRef .tc main_call0_v7) = V (Proc.devRef .tc main_call0_v7))
    (h2 : after l V (Proc.devRef .tc main_call0_call0_v1) = V (Proc.devRef .tc main_call0_call0_v1))
    (h3 : after l V (Proc.devRef .tc main_call0_v2) = V (Proc.devRef .tc main_call0_v2))
    (h4 : after l V (Proc.devRef .tc main_call0_v3) = V (Proc.devRef .tc main_call0_v3)) : Keys (after l V) :=
  ⟨h0.trans hk.k0, h1.trans hk.k1, h2.trans hk.k2, h3.trans hk.lo, h4.trans hk.hi⟩

/-- The first group of four rounds and its injection. -/
theorem group1_fst (V : Valuation τ sig (Elt F)) (hk : Keys V) (i : S1024x1024.Idx) :
    after (win 41 43) V (Proc.devRef .tc main_call0_call0_v35) i
      = (Spec.inject 42#32 Spec.ks2 1#32 (Spec.roundsA
          (V (Proc.devRef .tc main_call0_call0_v3) i, V (Proc.devRef .tc main_call0_call0_v5) i))).1 := by
  after_reads_simp
  rw [hk.k1]
  rfl

theorem group1_snd (V : Valuation τ sig (Elt F)) (hk : Keys V) (i : S1024x1024.Idx) :
    after (win 41 43) V (Proc.devRef .tc main_call0_call0_v39) i
      = (Spec.inject 42#32 Spec.ks2 1#32 (Spec.roundsA
          (V (Proc.devRef .tc main_call0_call0_v3) i, V (Proc.devRef .tc main_call0_call0_v5) i))).2 := by
  after_reads_simp
  rw [hk.k2]
  rfl

theorem group1_keys (V : Valuation τ sig (Elt F)) (hk : Keys V) : Keys (after (win 41 43) V) :=
  keys_kept hk (by after_reads_simp) (by after_reads_simp) (by after_reads_simp) (by after_reads_simp) (by after_reads_simp)

/-- The second group of four rounds and its injection. -/
theorem group2_fst (V : Valuation τ sig (Elt F)) (hk : Keys V) (i : S1024x1024.Idx) :
    after (win 84 43) V (Proc.devRef .tc main_call0_call0_v69) i
      = (Spec.inject Spec.ks2 0#32 2#32 (Spec.roundsB
          (V (Proc.devRef .tc main_call0_call0_v35) i, V (Proc.devRef .tc main_call0_call0_v39) i))).1 := by
  after_reads_simp
  rw [hk.k2]
  rfl

theorem group2_snd (V : Valuation τ sig (Elt F)) (hk : Keys V) (i : S1024x1024.Idx) :
    after (win 84 43) V (Proc.devRef .tc main_call0_call0_v73) i
      = (Spec.inject Spec.ks2 0#32 2#32 (Spec.roundsB
          (V (Proc.devRef .tc main_call0_call0_v35) i, V (Proc.devRef .tc main_call0_call0_v39) i))).2 := by
  after_reads_simp
  rw [hk.k0]
  rfl

theorem group2_keys (V : Valuation τ sig (Elt F)) (hk : Keys V) : Keys (after (win 84 43) V) :=
  keys_kept hk (by after_reads_simp) (by after_reads_simp) (by after_reads_simp) (by after_reads_simp) (by after_reads_simp)

/-- The third group of four rounds and its injection. -/
theorem group3_fst (V : Valuation τ sig (Elt F)) (hk : Keys V) (i : S1024x1024.Idx) :
    after (win 127 43) V (Proc.devRef .tc main_call0_call0_v103) i
      = (Spec.inject 0#32 42#32 3#32 (Spec.roundsA
          (V (Proc.devRef .tc main_call0_call0_v69) i, V (Proc.devRef .tc main_call0_call0_v73) i))).1 := by
  after_reads_simp
  rw [hk.k0]
  rfl

theorem group3_snd (V : Valuation τ sig (Elt F)) (hk : Keys V) (i : S1024x1024.Idx) :
    after (win 127 43) V (Proc.devRef .tc main_call0_call0_v107) i
      = (Spec.inject 0#32 42#32 3#32 (Spec.roundsA
          (V (Proc.devRef .tc main_call0_call0_v69) i, V (Proc.devRef .tc main_call0_call0_v73) i))).2 := by
  after_reads_simp
  rw [hk.k1]
  rfl

theorem group3_keys (V : Valuation τ sig (Elt F)) (hk : Keys V) : Keys (after (win 127 43) V) :=
  keys_kept hk (by after_reads_simp) (by after_reads_simp) (by after_reads_simp) (by after_reads_simp) (by after_reads_simp)

/-- The fourth group of four rounds and its injection. -/
theorem group4_fst (V : Valuation τ sig (Elt F)) (hk : Keys V) (i : S1024x1024.Idx) :
    after (win 170 43) V (Proc.devRef .tc main_call0_call0_v137) i
      = (Spec.inject 42#32 Spec.ks2 4#32 (Spec.roundsB
          (V (Proc.devRef .tc main_call0_call0_v103) i, V (Proc.devRef .tc main_call0_call0_v107) i))).1 := by
  after_reads_simp
  rw [hk.k1]
  rfl

theorem group4_snd (V : Valuation τ sig (Elt F)) (hk : Keys V) (i : S1024x1024.Idx) :
    after (win 170 43) V (Proc.devRef .tc main_call0_call0_v141) i
      = (Spec.inject 42#32 Spec.ks2 4#32 (Spec.roundsB
          (V (Proc.devRef .tc main_call0_call0_v103) i, V (Proc.devRef .tc main_call0_call0_v107) i))).2 := by
  after_reads_simp
  rw [hk.k2]
  rfl

theorem group4_keys (V : Valuation τ sig (Elt F)) (hk : Keys V) : Keys (after (win 170 43) V) :=
  keys_kept hk (by after_reads_simp) (by after_reads_simp) (by after_reads_simp) (by after_reads_simp) (by after_reads_simp)

/-- The fifth group of four rounds and its injection. -/
theorem group5_fst (V : Valuation τ sig (Elt F)) (hk : Keys V) (i : S1024x1024.Idx) :
    after (win 213 43) V (Proc.devRef .tc main_call0_v19_0) i
      = (Spec.inject Spec.ks2 0#32 5#32 (Spec.roundsA
          (V (Proc.devRef .tc main_call0_call0_v137) i, V (Proc.devRef .tc main_call0_call0_v141) i))).1 := by
  after_reads_simp
  rw [hk.k2]
  rfl

theorem group5_snd (V : Valuation τ sig (Elt F)) (hk : Keys V) (i : S1024x1024.Idx) :
    after (win 213 43) V (Proc.devRef .tc main_call0_v19_1) i
      = (Spec.inject Spec.ks2 0#32 5#32 (Spec.roundsA
          (V (Proc.devRef .tc main_call0_call0_v137) i, V (Proc.devRef .tc main_call0_call0_v141) i))).2 := by
  after_reads_simp
  rw [hk.k0]
  rfl

theorem group5_keys (V : Valuation τ sig (Elt F)) (hk : Keys V) : Keys (after (win 213 43) V) :=
  keys_kept hk (by after_reads_simp) (by after_reads_simp) (by after_reads_simp) (by after_reads_simp) (by after_reads_simp)

/-- The number drawn from a mantissa word: the float with that mantissa in `[1, 2)`, minus one, scaled to the interval. -/
def noise (F : FTy → Type) [FloatOps F] (w : BitVec 32) : F .f32 :=
  FloatOps.maximumf (FloatOps.ofBits .f32 0x00000000#32)
    (FloatOps.addf (FloatOps.mulf (FloatOps.subf (FloatOps.ofBits .f32 (w ||| 0x3F800000#32)) (FloatOps.ofBits .f32 0x3F800000#32))
      (FloatOps.subf (FloatOps.ofBits .f32 0x3F800000#32) (FloatOps.ofBits .f32 0x00000000#32))) (FloatOps.ofBits .f32 0x00000000#32))

/-- The mantissa word of the two random words. -/
def word (a b : BitVec 32) : BitVec 32 := (a ^^^ b) >>> 9#32

theorem noise_read (V : Valuation τ sig (Elt F)) (hk : Keys V) (i : S1024x1024.Idx) :
    after (win 256 18) V (Proc.devRef .tc main_v7) i
      = noise F (word (V (Proc.devRef .tc main_call0_v19_0) i) (V (Proc.devRef .tc main_call0_v19_1) i)) := by
  after_reads_simp
  rw [hk.lo, hk.hi]
  rfl

/-- The result: whether the sorted position is below 768. -/
theorem out_read (V : Valuation τ sig (Elt F)) :
    after (win 274 6) V (Proc.devRef .tc main_v10) = cmpi .slt (Host.sort2 S1024x1024 1 comparator_f32_i32_d1
      (V (Proc.devRef .tc main_v7)) (iotaInDim S1024x1024 32 1)).2 (fun _ => 768#32) := by
  after_reads_simp
  rfl

/-- The whole line is its windows, one after the other. -/
theorem ops_windows : (ops (F := F)) = win 0 34 ++ (win 34 7 ++ (win 41 43 ++ (win 84 43 ++ (win 127 43 ++ (win 170 43 ++
    (win 213 43 ++ (win 256 18 ++ win 274 6))))))) := by
  rfl

end Cert.ReferenceIdeal.Line
end
-- ==== Proof.RefValue.lean ====
/- The reference's result: the words of every entry, the noise, and the sort's comparison against 768. -/
module

public import proofs.«01_k».proof.Proof.RefWords
public import Idealize.ShloMosaic.Lib.Pipeline.Frame

@[expose] public section

noncomputable section

namespace Cert.ReferenceIdeal.Line

open Idealize.ShloMosaic Idealize.ShloMosaic.TcCoe Idealize.SL.Sem Cert.ReferenceIdeal
open Idealize.ShloMosaic.StableHlo (after launchContents after_append)

variable {F : FTy → Type} [FloatOps F]

/-- The noise of the whole array. -/
def noiseAll (F : FTy → Type) [FloatOps F] : FVec F S1024x1024 .f32 := fun i => noise F (Spec.mant (flat i))

/-- The words of every entry, through the five groups, as noise. -/
theorem noise_all (V : Valuation τ sig (Elt F)) :
    after (win 256 18) (after (win 213 43) (after (win 170 43) (after (win 127 43) (after (win 84 43) (after (win 41 43)
      (after (win 34 7) (after (win 0 34) V))))))) (Proc.devRef .tc main_v7) = noiseAll F := by
  funext i
  have K0 := keys_second V
  have e1 := start_fst V i
  have e2 := start_snd V i
  generalize after (win 34 7) (after (win 0 34) V) = V0 at K0 e1 e2 ⊢
  have K1 := group1_keys V0 K0
  have K2 := group2_keys _ K1
  have K3 := group3_keys _ K2
  have K4 := group4_keys _ K3
  have K5 := group5_keys _ K4
  have p1 := group1_fst V0 K0 i
  have q1 := group1_snd V0 K0 i
  have p2 := group2_fst _ K1 i
  have q2 := group2_snd _ K1 i
  have p3 := group3_fst _ K2 i
  have q3 := group3_snd _ K2 i
  have p4 := group4_fst _ K3 i
  have q4 := group4_snd _ K3 i
  have p5 := group5_fst _ K4 i
  have q5 := group5_snd _ K4 i
  refine (noise_read _ K5 i).trans (congrArg (noise F) ?_ : _ = noise F (Spec.mant (flat i)))
  rw [e1, e2] at p1 q1
  rw [p1, q1, Prod.mk.eta] at p2 q2
  rw [p2, q2, Prod.mk.eta] at p3 q3
  rw [p3, q3, Prod.mk.eta] at p4 q4
  rw [p4, q4, Prod.mk.eta] at p5 q5
  rw [p5, q5, word, Spec.mant, Spec.bits, Spec.threefry]

/-- The line leaves in the result buffer the comparison of the sorted positions with 768. -/
theorem result (V : Valuation τ sig (Elt F)) :
    after ops V (Proc.devRef .tc main_v10) = cmpi .slt (Host.sort2 S1024x1024 1 comparator_f32_i32_d1
      (noiseAll F) (iotaInDim S1024x1024 32 1)).2 (fun _ => 768#32) := by
  refine (congrArg (fun l => after l V (Proc.devRef .tc main_v10)) ops_windows).trans ?_
  show after (win 0 34 ++ _) V _ = _
  rw [after_append, after_append, after_append, after_append, after_append, after_append, after_append, after_append]
  rw [out_read, noise_all]

end Cert.ReferenceIdeal.Line
end
-- ==== Proof.Noise.lean ====
/- The reference's number for a mantissa word, as a real number: the mantissa over `2 ^ 23`. So the order of the numbers is
   the order of the mantissas. -/
module

public import proofs.«01_k».proof.Proof.RefValue
public import proofs.«01_k».proof.Proof.Mask
public import Idealize.ShloMosaic.Lib.IdealHost

@[expose] public section

noncomputable section

namespace Cert.Noise

open Idealize.ShloMosaic Cert.ReferenceIdeal

/-- The float with the mantissa `w`, in `[1, 2)`. -/
theorem float_value (w : BitVec 32) (hw : w.toNat < 2 ^ 23) :
    Ideal.ofBits .f32 (w ||| 0x3F800000#32) = (((1 : ℝ) + (w.toNat : ℝ) / 2 ^ 23 : ℝ) : EReal) := by
  have hn : (w ||| 0x3F800000#32).toNat = 2 ^ 23 * 127 + w.toNat := by
    rw [Nat.two_pow_add_eq_or_of_lt hw, BitVec.toNat_or, Nat.or_comm]
    rfl
  have hs : (w ||| 0x3F800000#32).extractLsb' 31 1 = 0#1 := by
    apply BitVec.eq_of_toNat_eq
    rw [BitVec.extractLsb'_toNat, hn, Nat.shiftRight_eq_div_pow]
    show (2 ^ 23 * 127 + w.toNat) / 2 ^ 31 % 2 ^ 1 = 0
    omega
  have he : ((w ||| 0x3F800000#32).extractLsb' 23 8).toNat = 127 := by
    rw [BitVec.extractLsb'_toNat, hn, Nat.shiftRight_eq_div_pow]
    omega
  have hf : ((w ||| 0x3F800000#32).extractLsb' 0 23).toNat = w.toNat := by
    rw [BitVec.extractLsb'_toNat, hn, Nat.shiftRight_eq_div_pow]
    omega
  show Ideal.ieee 8 23 _ = _
  unfold Ideal.ieee
  simp only [hs, he, hf]
  rw [if_neg (by norm_num), if_neg (by norm_num)]
  refine congrArg Real.toEReal ?_
  norm_num
  ring

/-- The number the reference draws from `w`. -/
theorem value (w : BitVec 32) (hw : w.toNat < 2 ^ 23) :
    Line.noise Ideal w = (((w.toNat : ℝ) / 2 ^ 23 : ℝ) : EReal) := by
  have h1 : Ideal.ofBits .f32 0x3F800000#32 = ((1 : ℝ) : EReal) := by rw [Ideal.ofBits_one_f32]; rfl
  have h0 : Ideal.ofBits .f32 0x00000000#32 = ((0 : ℝ) : EReal) := by rw [Ideal.ofBits_zero_f32]; rfl
  show max (Ideal.ofBits .f32 0x00000000#32) ((Ideal.ofBits .f32 (w ||| 0x3F800000#32) - Ideal.ofBits .f32 0x3F800000#32)
    * (Ideal.ofBits .f32 0x3F800000#32 - Ideal.ofBits .f32 0x00000000#32) + Ideal.ofBits .f32 0x00000000#32) = _
  rw [float_value w hw, h1, h0, ← EReal.coe_sub, ← EReal.coe_sub, ← EReal.coe_mul, ← EReal.coe_add]
  rw [show ((1 : ℝ) + (w.toNat : ℝ) / 2 ^ 23 - 1) * (1 - 0) + 0 = (w.toNat : ℝ) / 2 ^ 23 by ring]
  refine max_eq_right (EReal.coe_le_coe_iff.2 ?_)
  positivity

end Cert.Noise
end
-- ==== Proof.Sorted.lean ====
/- The reference's sort, by ranks: the entry a row's stable sort puts at position `i` is the entry of rank `i`. So a
   sorted position is below 768 just where no entry from 768 on has that rank. -/
module

public import proofs.«01_k».proof.Proof.Noise
public import Idealize.ShloMosaic.Lib.SortPrefix

@[expose] public section

noncomputable section

namespace Cert.Sorted

open Idealize.ShloMosaic Cert.ReferenceIdeal

/-! ## Ties keep their places -/

/-- Two relations that agree on every pair in the list's own order sort the list alike. -/
theorem stable_congr {ι : Type} (P : ι → ι → Prop) (R R' : ι → ι → Bool) (h : ∀ a b, P a b → R b a = R' b a) :
    ∀ l : List ι, l.Pairwise P → stableSort R l = stableSort R' l
  | [], _ => rfl
  | a :: l, hl => by
    rw [List.pairwise_cons] at hl
    show insertBefore R a (stableSort R l) = insertBefore R' a (stableSort R' l)
    rw [stable_congr P R R' h l hl.2]
    exact insertBefore_congr R R' a _ fun b hb => h a b (hl.1 b ((perm_stableSort R' l).mem_iff.1 hb))

theorem from_congr {n : Nat} (R R' : Fin n → Fin n → Bool) (h : ∀ a b, a < b → R b a = R' b a) (k : Fin n) :
    sortedFrom R k = sortedFrom R' k := by
  unfold sortedFrom
  have e : sortPositions n R = sortPositions n R' :=
    stable_congr (· < ·) R R' h (List.finRange n) (List.pairwise_lt_finRange n)
  rw [List.get_of_eq e]
  rfl

/-! ## Ranks -/

variable (r : Nat)

/-- The row's order as a test. -/
def before (a b : Fin 1024) : Bool := decide (Mask.Before r a b)

theorem before_total : StrictTotalBefore (before r) where
  irrefl a := by
    unfold before
    rw [decide_eq_false_iff_not]
    unfold Mask.Before
    rintro (h | ⟨-, h⟩)
    · exact lt_irrefl _ h
    · exact lt_irrefl _ h
  trans a b c hab hbc := by
    unfold before at *
    rw [decide_eq_true_eq] at *
    unfold Mask.Before at *
    simp only [Fin.lt_def] at *
    omega
  total a b hne := by
    unfold before
    rw [decide_eq_true_eq, decide_eq_true_eq]
    unfold Mask.Before
    have h : a.val ≠ b.val := fun e => hne (Fin.ext e)
    simp only [Fin.lt_def]
    omega

/-- What the sort puts at position `i` has rank `i`. -/
theorem rank_sorted (i : Fin 1024) : Mask.rank r (sortedFrom (before r) i) = i.val := by
  have inv := sortedFrom_noInversion (before r) (before r) (before_total r).asymm (fun _ _ h => h) (before_total r).negTrans
  have e : (Finset.univ.filter fun k : Fin 1024 => Mask.Before r k (sortedFrom (before r) i))
      = (Finset.univ.filter fun j : Fin 1024 => j < i).image (sortedFrom (before r)) := by
    ext k
    rw [Finset.mem_filter, Finset.mem_image]
    constructor
    · rintro ⟨-, hk⟩
      obtain ⟨j, rfl⟩ := sortedFrom_surjective (before r) k
      refine ⟨j, Finset.mem_filter.2 ⟨Finset.mem_univ _, ?_⟩, rfl⟩
      have hb : before r (sortedFrom (before r) j) (sortedFrom (before r) i) = true := decide_eq_true hk
      rcases lt_trichotomy j i with h | h | h
      · exact h
      · rw [h, (before_total r).irrefl] at hb
        exact absurd hb (by decide)
      · rw [inv i j h] at hb
        exact absurd hb (by decide)
    · rintro ⟨j, hj, rfl⟩
      have hji := (Finset.mem_filter.1 hj).2
      refine ⟨Finset.mem_univ _, ?_⟩
      rcases (before_total r).total (sortedFrom (before r) j) (sortedFrom (before r) i)
        (fun e => absurd (sortedFrom_injective _ e) (ne_of_lt hji)) with h | h
      · exact of_decide_eq_true h
      · rw [inv j i hji] at h
        exact absurd h (by decide)
  unfold Mask.rank
  rw [e, Finset.card_image_of_injective _ (sortedFrom_injective _)]
  have := Fin.card_Iio i
  rw [← this]
  congr 1
  ext j
  simp

/-- A position is masked out just where the sort puts an entry from 768 on. -/
theorem out_iff (i : Fin 1024) : Mask.Out r i ↔ ¬ (sortedFrom (before r) i).val < 768 := by
  constructor
  · rintro ⟨j, hj⟩ hlt
    obtain ⟨i', e⟩ := sortedFrom_surjective (before r) (Mask.tailAt j)
    rw [← e, rank_sorted] at hj
    have : i' = i := Fin.ext hj
    rw [← this, e] at hlt
    have : (Mask.tailAt j).val = 768 + j.val := rfl
    omega
  · intro h
    have hs := (sortedFrom (before r) i).isLt
    refine ⟨⟨(sortedFrom (before r) i).val - 768, by omega⟩, ?_⟩
    have e : Mask.tailAt ⟨(sortedFrom (before r) i).val - 768, by omega⟩ = sortedFrom (before r) i :=
      Fin.ext (show 768 + ((sortedFrom (before r) i).val - 768) = _ by omega)
    rw [e, rank_sorted]

/-! ## The comparator -/

theorem select_eq {α : Type} (P : Prop) [Decidable P] (a b : α) :
    Scalar.select (BitVec.ofBool (decide P)) a b = if P then a else b := by
  unfold Scalar.select
  by_cases h : P
  · rw [if_pos h, decide_eq_true h]; rfl
  · rw [if_neg h, decide_eq_false h]; rfl

/-- The reference's comparator tests whether the first number is below the second. -/
theorem comparator_eq (x y : EReal) (a b : BitVec 32) :
    comparator_f32_i32_d1 (F := Ideal) (x, a) (y, b) = BitVec.ofBool (decide (x < y)) := by
  have zero : ∀ z : EReal, Scalar.select (BitVec.ofBool (decide (z = Ideal.ofBits .f32 0x00000000#32)))
      (Ideal.ofBits .f32 0x00000000#32) z = z := fun z => by
    rw [select_eq]
    by_cases h : z = Ideal.ofBits .f32 0x00000000#32
    · rw [if_pos h, h]
    · rw [if_neg h]
  have nan : ∀ z w : EReal, Scalar.select (BitVec.ofBool (decide (z ≠ z))) (Ideal.ofBits .f32 0x7FC00000#32) w = w :=
    fun z w => by rw [select_eq, if_neg fun h => h rfl]
  show Ideal.cmpTotal .lt
    (Scalar.select (BitVec.ofBool (decide (x ≠ x))) (Ideal.ofBits .f32 0x7FC00000#32)
      (Scalar.select (BitVec.ofBool (decide (x = Ideal.ofBits .f32 0x00000000#32))) (Ideal.ofBits .f32 0x00000000#32) x))
    (Scalar.select (BitVec.ofBool (decide (y ≠ y))) (Ideal.ofBits .f32 0x7FC00000#32)
      (Scalar.select (BitVec.ofBool (decide (y = Ideal.ofBits .f32 0x00000000#32))) (Ideal.ofBits .f32 0x00000000#32) y)) = _
  rw [zero, zero, nan, nan]
  rfl

/-- The order of the drawn numbers is the order of the mantissas. -/
theorem noise_lt (v w : BitVec 32) (hv : v.toNat < 2 ^ 23) (hw : w.toNat < 2 ^ 23) :
    Line.noise Ideal v < Line.noise Ideal w ↔ v.toNat < w.toNat := by
  rw [Noise.value v hv, Noise.value w hw]
  refine EReal.coe_lt_coe_iff.trans ?_
  rw [div_lt_div_iff_of_pos_right (by positivity)]
  exact Nat.cast_lt

/-! ## The result -/

/-- The place of entry `k` of row `j`. -/
def entry (j : S1024x1024.Idx) (k : Fin 1024) : S1024x1024.Idx := j.along 1 k

theorem flat_entry (j : S1024x1024.Idx) (k : Fin 1024) :
    Line.flat (entry j k) = BitVec.ofNat 32 ((j 0).val * 1024 + k.val) := rfl

/-- How the sort compares two entries of a row. -/
def test (j : S1024x1024.Idx) (k k' : Fin 1024) : Bool :=
  comparator_f32_i32_d1 (F := Ideal) (Line.noiseAll Ideal (entry j k), iotaInDim S1024x1024 32 1 (entry j k))
    (Line.noiseAll Ideal (entry j k'), iotaInDim S1024x1024 32 1 (entry j k')) == 1#1

theorem test_eq (j : S1024x1024.Idx) (k k' : Fin 1024) :
    test j k k' = decide (Mask.mantissa (j 0).val k < Mask.mantissa (j 0).val k') := by
  unfold test
  rw [comparator_eq]
  have h : (Line.noiseAll Ideal (entry j k) < Line.noiseAll Ideal (entry j k'))
      ↔ Mask.mantissa (j 0).val k < Mask.mantissa (j 0).val k' := noise_lt _ _ (Mask.mant_lt _) (Mask.mant_lt _)
  rw [decide_eq_decide.2 h]
  cases decide (Mask.mantissa (j 0).val k < Mask.mantissa (j 0).val k') <;> rfl

/-- The sort's positions are those of the row's order. -/
theorem positions (j : S1024x1024.Idx) (i : Fin 1024) : sortedFrom (test j) i = sortedFrom (before (j 0).val) i := by
  refine from_congr _ _ (fun a b hab => ?_) i
  rw [test_eq]
  unfold before
  refine decide_eq_decide.2 ?_
  unfold Mask.Before
  have : ¬ b < a := not_lt.2 (le_of_lt hab)
  constructor
  · exact Or.inl
  · rintro (h | ⟨-, h⟩)
    · exact h
    · exact absurd h this

/-- An index's column. -/
def col (j : S1024x1024.Idx) : Fin 1024 := j 1

/-- The second operand of a two-operand sort of the rows, at an index. -/
theorem sort2_snd {α β : Type} (cmp : α × β → α × β → BitVec 1) (x : S1024x1024.Idx → α) (y : S1024x1024.Idx → β)
    (B : S1024x1024.Idx → Fin 1024 → Fin 1024 → Bool)
    (hB : ∀ j k k', B j k k' = (cmp (x (entry j k), y (entry j k)) (x (entry j k'), y (entry j k')) == 1#1)) (j : S1024x1024.Idx) :
    (Host.sort2 S1024x1024 1 cmp x y).2 j = y (entry j (sortedFrom (B j) (col j))) := by
  have e : B j = fun k k' => (cmp (x (entry j k), y (entry j k)) (x (entry j k'), y (entry j k')) == 1#1) :=
    funext fun k => funext fun k' => hB j k k'
  rw [e]
  rfl

theorem sorted_at (j : S1024x1024.Idx) :
    (Host.sort2 S1024x1024 1 (comparator_f32_i32_d1 (F := Ideal)) (Line.noiseAll Ideal) (iotaInDim S1024x1024 32 1)).2 j
      = iotaInDim S1024x1024 32 1 (entry j (sortedFrom (test j) (col j))) := by
  exact sort2_snd (comparator_f32_i32_d1 (F := Ideal)) (Line.noiseAll Ideal) (iotaInDim S1024x1024 32 1) test (fun j k k' => by unfold test; rfl) j

theorem iota_entry (j : S1024x1024.Idx) (k : Fin 1024) : iotaInDim S1024x1024 32 1 (entry j k) = BitVec.ofNat 32 k.val := rfl

theorem slt_apply (x y : S1024x1024.Idx → BitVec 32) (j : S1024x1024.Idx) :
    cmpi .slt x y j = BitVec.ofBool (BitVec.slt (x j) (y j)) := rfl

/-- The reference's result: set just where the mask is not out. -/
theorem result_apply (j : S1024x1024.Idx) :
    cmpi .slt (Host.sort2 S1024x1024 1 (comparator_f32_i32_d1 (F := Ideal)) (Line.noiseAll Ideal) (iotaInDim S1024x1024 32 1)).2
      (fun _ => 768#32) j = BitVec.ofBool (!decide (Mask.Out (j 0).val (col j))) := by
  refine (slt_apply _ _ j).trans ?_
  rw [sorted_at, positions, iota_entry]
  refine congrArg BitVec.ofBool ?_
  have hs := (sortedFrom (before (j 0).val) (col j)).isLt
  have ho := out_iff (j 0).val (col j)
  generalize sortedFrom (before (j 0).val) (col j) = p at hs ho
  have hn : (BitVec.ofNat 32 p.val).toNat = p.val := by rw [BitVec.toNat_ofNat]; omega
  rw [Bool.eq_iff_iff, BitVec.slt_iff_toInt_lt, BitVec.toInt_eq_toNat_of_lt (by omega), Bool.not_eq_true', decide_eq_false_iff_not,
    ho, not_not, hn]
  show ((p.val : Int) < 768) ↔ _
  omega

end Cert.Sorted
end
-- ==== Proof.Agree.lean ====
/- The kernel and the reference end with the same result: the mask, entry by entry. -/
module

public import proofs.«01_k».proof.Defs
public import proofs.«01_k».proof.Proof.KernelValue
public import proofs.«01_k».proof.Proof.RefRun
public import proofs.«01_k».proof.Proof.Sorted
public import proofs.«01_k».proof.Proof.Gen.ReferenceIdeal

@[expose] public section

noncomputable section

namespace Cert.Agree

open Idealize.ShloMosaic Idealize.ShloMosaic.TcCoe Idealize.SL.Sem

/-- The mask: set just where a position is not the rank of one of its row's last 256 entries. -/
def mask : (⟨2, ![1024, 1024]⟩ : Shape).Idx → BitVec 1 := fun j => BitVec.ofBool (!decide (Mask.Out (j 0).val (Sorted.col j)))

theorem word_ne (r : Nat) (k : Fin 1024) :
    BitVec.ofBool (Mask.word r k != 0#32) = BitVec.ofBool (!decide (Mask.Out r k)) := by
  unfold Mask.word
  by_cases h : Mask.Out r k
  · rw [if_pos h, decide_eq_true h]; rfl
  · rw [if_neg h, decide_eq_false h]; rfl

theorem kernel_mask : (cmpi .ne KernelIdeal.Value.words (fun _ => 0#32) : KernelIdeal.S1024x1024.Idx → BitVec 1) = mask :=
  funext fun j => word_ne (j 0).val (Sorted.col j)

theorem reference_mask : cmpi .slt (Host.sort2 ReferenceIdeal.S1024x1024 1 (ReferenceIdeal.comparator_f32_i32_d1 (F := Ideal))
    (ReferenceIdeal.Line.noiseAll Ideal) (iotaInDim ReferenceIdeal.S1024x1024 32 1)).2 (fun _ => 768#32) = mask :=
  funext fun j => Sorted.result_apply j

theorem algebraic : Cert.algebraic_KernelIdeal_ReferenceIdeal := by
  intro m g m' g' _ _
  refine ⟨fun _ => mask, ?_, ?_⟩
  · exact (θ_run _ _ _).mono (fun r h c => ⟨((h c).1).trans kernel_mask, (h c).2⟩) (KernelIdeal.Value.run m g)
  · exact (θ_run _ _ _).mono (fun r h c => ⟨((h c ReferenceIdeal.main_v10).trans (ReferenceIdeal.Line.result _)).trans reference_mask,
      (h c ReferenceIdeal.main_arg0).trans (ReferenceIdeal.Line.arg_kept _)⟩) (ReferenceIdeal.Line.run m' g')

end Cert.Agree
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.KernelFrame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.KernelRun
public import proofs.«01_k».proof.Proof.RefRun
public import proofs.«01_k».proof.Proof.Agree
public import proofs.«01_k».proof.Proof.Gen.ReferenceIdeal
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  fun m g _ => Cert.Kernel.Run.frame m g, fun m g _ => Cert.KernelIdeal.Run.frame m g,
  fun m g _ => Cert.ReferenceIdeal.Line.run_frame m g, trivial, Cert.Agree.algebraic⟩

end Cert.Proof

end
